-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)) (v6 : (c : Dev Cert.KernelIdeal.nD) → Buf (Elt Ideal) ((c.tc : Thread Cert.KernelIdeal.nD Cert.KernelIdeal.τ).loc Cert.KernelIdeal.main_v32_6)) (v7 : (c : Dev Cert.KernelIdeal.nD) → Buf (Elt Ideal) ((c.tc : Thread Cert.KernelIdeal.nD Cert.KernelIdeal.τ).loc Cert.KernelIdeal.main_v32_7)) (v8 : (c : Dev Cert.KernelIdeal.nD) → Buf (Elt Ideal) ((c.tc : Thread Cert.KernelIdeal.nD Cert.KernelIdeal.τ).loc Cert.KernelIdeal.main_v32_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_v32_5) = v5 c
          ∧ r.2.mem ((c.tc : Thread Cert.KernelIdeal.nD Cert.KernelIdeal.τ).loc Cert.KernelIdeal.main_v32_6) = v6 c
          ∧ r.2.mem ((c.tc : Thread Cert.KernelIdeal.nD Cert.KernelIdeal.τ).loc Cert.KernelIdeal.main_v32_7) = v7 c
          ∧ r.2.mem ((c.tc : Thread Cert.KernelIdeal.nD Cert.KernelIdeal.τ).loc Cert.KernelIdeal.main_v32_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_v82) = v7 c
          ∧ r.2.mem ((c.tc : Thread Cert.ReferenceIdeal.nD Cert.ReferenceIdeal.τ).loc Cert.ReferenceIdeal.main_v83) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v14) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_v17) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S4096x1024 : Shape := ⟨2, ![4096, 1024]⟩
abbrev S4096x512 : Shape := ⟨2, ![4096, 512]⟩
abbrev S1x128 : Shape := ⟨2, ![1, 128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S1x128 : S_.BroadcastsInDim S1x128 (![] : Fin 0 → Fin S1x128.rank)
  bcast_S_S1024x1024 : S_.BroadcastsInDim S1024x1024 (![] : Fin 0 → Fin S1024x1024.rank)

variable [Facts]

def fn_part1 {F : FTy → Type} [FloatOps F] (main_arg6 : FVec F S1024x1024 .f32) (main_arg7 : FVec F S4096x1024 .f32) (main_v2 : IVec S4096x1024 1) (main_v5 : IVec S4096x512 1) (main_v8 : IVec S4096x512 1) (main_v11 : IVec S1x128 1) (main_v14 : IVec S4096x512 1) (main_v17 : IVec S4096x512 1) : IVec S4096x1024 1 × IVec S4096x512 1 × IVec S4096x512 1 × IVec S1x128 1 × IVec S4096x512 1 × IVec S4096x512 1 × IVec S1024x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x512 .f32) (main_arg2 : FVec F S4096x512 .f32) (main_arg3 : FVec F S1x128 .f32) (main_arg4 : FVec F S4096x512 .f32) (main_arg5 : FVec F S4096x512 .f32) (main_arg6 : FVec F S1024x1024 .f32) (main_arg7 : FVec F S4096x1024 .f32) : IVec S4096x1024 1 × IVec S4096x512 1 × IVec S4096x512 1 × IVec S1x128 1 × IVec S4096x512 1 × IVec S4096x512 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg6 main_arg7 main_v2 main_v5 main_v8 main_v11 main_v14 main_v17
-- ==== Pre_finite3.lean ====
abbrev S4096x1024 : Shape := ⟨2, ![4096, 1024]⟩
abbrev S1x1024 : Shape := ⟨2, ![1, 1024]⟩
abbrev S1024x4224 : Shape := ⟨2, ![1024, 4224]⟩
abbrev S4096x1536 : Shape := ⟨2, ![4096, 1536]⟩
abbrev S4096x512 : Shape := ⟨2, ![4096, 512]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4224 : S_.BroadcastsInDim S1024x4224 (![] : Fin 0 → Fin S1024x4224.rank)
  bcast_S_S4096x1536 : S_.BroadcastsInDim S4096x1536 (![] : Fin 0 → Fin S4096x1536.rank)
  bcast_S_S4096x512 : S_.BroadcastsInDim S4096x512 (![] : Fin 0 → Fin S4096x512.rank)
  bcast_S_S4096x128 : S_.BroadcastsInDim S4096x128 (![] : Fin 0 → Fin S4096x128.rank)

variable [Facts]

def fn_part1 {F : FTy → Type} [FloatOps F] (main_arg7 : FVec F S4096x512 .f32) (main_arg8 : FVec F S4096x512 .f32) (main_arg9 : FVec F S4096x512 .f32) (main_arg10 : FVec F S4096x128 .f32) (main_v2 : IVec S4096x1024 1) (main_v5 : IVec S1x1024 1) (main_v8 : IVec S1024x4224 1) (main_v11 : IVec S4096x1536 1) (main_v14 : IVec S4096x512 1) (main_v17 : IVec S4096x512 1) : IVec S4096x1024 1 × IVec S1x1024 1 × IVec S1024x4224 1 × IVec S4096x1536 1 × IVec S4096x512 1 × IVec S4096x512 1 × IVec S4096x512 1 × IVec S4096x512 1 × IVec S4096x512 1 × IVec S4096x128 1 :=
  let main_v18 : FVec F S4096x512 .f32 := Host.absf main_arg7
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_v21 : FVec F S4096x512 .f32 := Host.absf main_arg8
  let main_cst_6 : FVec F S_ .f32 := constant S_ .f32 0x7F800000#32
  let main_v22 : FVec F S4096x512 .f32 := broadcastInDim S4096x512 ![] bcast_S_S4096x512 main_cst_6
  let main_v23 : IVec S4096x512 1 := cmpf .olt main_v21 main_v22
  let main_v24 : FVec F S4096x512 .f32 := Host.absf main_arg9
  let main_cst_7 : FVec F S_ .f32 := constant S_ .f32 0x7F800000#32
  let main_v25 : FVec F S4096x512 .f32 := broadcastInDim S4096x512 ![] bcast_S_S4096x512 main_cst_7
  let main_v26 : IVec S4096x512 1 := cmpf .olt main_v24 main_v25
  let main_v27 : FVec F S4096x128 .f32 := Host.absf main_arg10
  let main_cst_8 : FVec F S_ .f32 := constant S_ .f32 0x7F800000#32
  let main_v28 : FVec F S4096x128 .f32 := broadcastInDim S4096x128 ![] bcast_S_S4096x128 main_cst_8
  let main_v29 : IVec S4096x128 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S1x1024 .f32) (main_arg2 : FVec F S1024x4224 .f32) (main_arg3 : FVec F S4096x1024 .f32) (main_arg4 : FVec F S4096x1536 .f32) (main_arg5 : FVec F S4096x512 .f32) (main_arg6 : FVec F S4096x512 .f32) (main_arg7 : FVec F S4096x512 .f32) (main_arg8 : FVec F S4096x512 .f32) (main_arg9 : FVec F S4096x512 .f32) (main_arg10 : FVec F S4096x128 .f32) : IVec S4096x1024 1 × IVec S1x1024 1 × IVec S1024x4224 1 × IVec S4096x1536 1 × IVec S4096x512 1 × IVec S4096x512 1 × IVec S4096x512 1 × IVec S4096x512 1 × IVec S4096x512 1 × IVec S4096x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4224 .f32 := Host.absf main_arg2
  let main_cst_1 : FVec F S_ .f32 := constant S_ .f32 0x7F800000#32
  let main_v7 : FVec F S1024x4224 .f32 := broadcastInDim S1024x4224 ![] bcast_S_S1024x4224 main_cst_1
  let main_v8 : IVec S1024x4224 1 := cmpf .olt main_v6 main_v7
  let main_v9 : FVec F S4096x1536 .f32 := Host.absf main_arg4
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  let main_v12 : FVec F S4096x512 .f32 := Host.absf main_arg5
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg6
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg7 main_arg8 main_arg9 main_arg10 main_v2 main_v5 main_v8 main_v11 main_v14 main_v17
-- ==== Kernel.lean ====
abbrev S4096x1024 : Shape := ⟨2, ![4096, 1024]⟩
abbrev S4096x512 : Shape := ⟨2, ![4096, 512]⟩
abbrev S1x128 : Shape := ⟨2, ![1, 128]⟩
abbrev S1024x1024 : Shape := ⟨2, ![1024, 1024]⟩
abbrev S8x128 : Shape := ⟨2, ![8, 128]⟩
abbrev S_ : Shape := ⟨0, ![]⟩
abbrev S8x64x128 : Shape := ⟨3, ![8, 64, 128]⟩
abbrev S512x128 : Shape := ⟨2, ![512, 128]⟩
abbrev S128x512 : Shape := ⟨2, ![128, 512]⟩
abbrev S4096x4x128 : Shape := ⟨3, ![4096, 4, 128]⟩
abbrev S4096x4 : Shape := ⟨2, ![4096, 4]⟩
abbrev S4096x4x1 : Shape := ⟨3, ![4096, 4, 1]⟩
abbrev S1x1x128 : Shape := ⟨3, ![1, 1, 128]⟩
abbrev S512x1024 : Shape := ⟨2, ![512, 1024]⟩
abbrev S512x512 : Shape := ⟨2, ![512, 512]⟩
abbrev S1x512x1024 : Shape := ⟨3, ![1, 512, 1024]⟩
abbrev S1 : Shape := ⟨1, ![1]⟩
abbrev S1x1x1 : Shape := ⟨3, ![1, 1, 1]⟩
abbrev S1024x512 : Shape := ⟨2, ![1024, 512]⟩
abbrev S512 : Shape := ⟨1, ![512]⟩
abbrev S512x1 : Shape := ⟨2, ![512, 1]⟩
abbrev S128 : Shape := ⟨1, ![128]⟩

abbrev nBuf : Space → Nat
  | .hbm => 69
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x128, .f32⟩
  | .hbm, ⟨4, _⟩ => ⟨S4096x512, .f32⟩
  | .hbm, ⟨5, _⟩ => ⟨S4096x512, .f32⟩
  | .hbm, ⟨6, _⟩ => ⟨S1024x1024, .f32⟩
  | .hbm, ⟨7, _⟩ => ⟨S4096x1024, .f32⟩
  | .hbm, ⟨8, _⟩ => ⟨S8x128, .i32⟩
  | .hbm, ⟨9, _⟩ => ⟨S8x128, .i32⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S8x128, .i1⟩
  | .hbm, ⟨14, _⟩ => ⟨S8x128, .f32⟩
  | .hbm, ⟨15, _⟩ => ⟨S8x64x128, .f32⟩
  | .hbm, ⟨16, _⟩ => ⟨S512x128, .f32⟩
  | .hbm, ⟨17, _⟩ => ⟨S128x512, .f32⟩
  | .hbm, ⟨18, _⟩ => ⟨S1024x1024, .bf16⟩
  | .hbm, ⟨19, _⟩ => ⟨S4096x4x128, .f32⟩
  | .hbm, ⟨20, _⟩ => ⟨S4096x4x128, .f32⟩
  | .hbm, ⟨21, _⟩ => ⟨S_, .f32⟩
  | .hbm, ⟨22, _⟩ => ⟨S4096x4, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1, .f32⟩
  | .hbm, ⟨31, _⟩ => ⟨S4096x4x128, .f32⟩
  | .hbm, ⟨32, _⟩ => ⟨S4096x4x128, .f32⟩
  | .hbm, ⟨33, _⟩ => ⟨S1x1x128, .f32⟩
  | .hbm, ⟨34, _⟩ => ⟨S4096x4x128, .f32⟩
  | .hbm, ⟨35, _⟩ => ⟨S4096x4x128, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .bf16⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .bf16⟩
  | .hbm, ⟨59, _⟩ => ⟨S1024x1024, .bf16⟩
  | .hbm, ⟨60, _⟩ => ⟨S4096x1024, .f32⟩
  | .hbm, ⟨61, _⟩ => ⟨S1024x1024, .bf16⟩
  | .hbm, ⟨62, _⟩ => ⟨S8x128, .f32⟩
  | .hbm, ⟨63, _⟩ => ⟨S4096x512, .f32⟩
  | .hbm, ⟨64, _⟩ => ⟨S4096x512, .bf16⟩
  | .hbm, ⟨65, _⟩ => ⟨S4096x512, .f32⟩
  | .hbm, ⟨66, _⟩ => ⟨S4096x512, .bf16⟩
  | .hbm, ⟨67, _⟩ => ⟨S4096x512, .f32⟩
  | .hbm, ⟨68, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x128, .f32⟩
  | .local _ .vmem, ⟨20, _⟩ => ⟨S128x512, .f32⟩
  | .local _ .vmem, ⟨21, _⟩ => ⟨S512x1024, .f32⟩
  | .local _ .vmem, ⟨22, _⟩ => ⟨S512x1024, .f32⟩
  | .local _ .vmem, ⟨23, _⟩ => ⟨S1024x1024, .bf16⟩
  | .local _ .vmem, ⟨24, _⟩ => ⟨S8x128, .f32⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S512x512, .f32⟩
  | .local _ .vmem, ⟨30, _⟩ => ⟨S512x512, .f32⟩
  | .local _ .vmem, ⟨31, _⟩ => ⟨S512x512, .bf16⟩
  | .local _ .vmem, ⟨32, _⟩ => ⟨S512x512, .bf16⟩
  | .local _ .vmem, ⟨33, _⟩ => ⟨S512x512, .f32⟩
  | .local _ .vmem, ⟨34, _⟩ => ⟨S512x512, .f32⟩
  | .local _ .vmem, ⟨35, _⟩ => ⟨S8x128, .f32⟩
  | .local _ .vmem, ⟨36, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32_0 : Ref sig .tc := ⟨.hbm, 60, rfl⟩
abbrev main_v32_1 : Ref sig .tc := ⟨.hbm, 61, rfl⟩
abbrev main_v32_2 : Ref sig .tc := ⟨.hbm, 62, rfl⟩
abbrev main_v32_3 : Ref sig .tc := ⟨.hbm, 63, rfl⟩
abbrev main_v32_4 : Ref sig .tc := ⟨.hbm, 64, rfl⟩
abbrev main_v32_5 : Ref sig .tc := ⟨.hbm, 65, rfl⟩
abbrev main_v32_6 : Ref sig .tc := ⟨.hbm, 66, rfl⟩
abbrev main_v32_7 : Ref sig .tc := ⟨.hbm, 67, rfl⟩
abbrev main_v32_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S4096x1024 : Shape := ⟨2, ![4096, 1024]⟩
abbrev S4096x512 : Shape := ⟨2, ![4096, 512]⟩
abbrev S1x128 : Shape := ⟨2, ![1, 128]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S128 : Shape := ⟨1, ![128]⟩
abbrev S4096x8x64 : Shape := ⟨3, ![4096, 8, 64]⟩
abbrev S4096x8 : Shape := ⟨2, ![4096, 8]⟩
abbrev S8x128 : Shape := ⟨2, ![8, 128]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1x128, .f32⟩
  | 4 => ⟨S4096x512, .f32⟩
  | 5 => ⟨S4096x512, .f32⟩
  | 6 => ⟨S1024x1024, .f32⟩
  | 7 => ⟨S4096x1024, .f32⟩
  | 8 => ⟨S4096x4x128, .f32⟩
  | 9 => ⟨S4096x4x128, .f32⟩
  | 10 => ⟨S_, .f32⟩
  | 11 => ⟨S4096x4, .f32⟩
  | 12 => ⟨S4096x4x1, .f32⟩
  | 13 => ⟨S_, .f32⟩
  | 14 => ⟨S4096x4x1, .f32⟩
  | 15 => ⟨S4096x4x1, .f32⟩
  | 16 => ⟨S_, .f32⟩
  | 17 => ⟨S4096x4x1, .f32⟩
  | 18 => ⟨S4096x4x1, .f32⟩
  | 19 => ⟨S4096x4x1, .f32⟩
  | 20 => ⟨S4096x4x1, .f32⟩
  | 21 => ⟨S_, .f32⟩
  | 22 => ⟨S4096x4x1, .f32⟩
  | 23 => ⟨S4096x4x1, .f32⟩
  | 24 => ⟨S4096x4x128, .f32⟩
  | 25 => ⟨S4096x4x128, .f32⟩
  | 26 => ⟨S1x1x128, .f32⟩
  | 27 => ⟨S4096x4x128, .f32⟩
  | 28 => ⟨S4096x4x128, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1024, .f32⟩
  | 83 => ⟨S4096x1024, .f32⟩
  | 84 => ⟨S1024x1024, .f32⟩
  | 85 => ⟨S1024x1024, .f32⟩
  | 86 => ⟨S4096x1024, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x4x128, .f32⟩
  | 102 => ⟨S4096x4x128, .f32⟩
  | 103 => ⟨S_, .f32⟩
  | 104 => ⟨S128, .f32⟩
  | 105 => ⟨S1x1x128, .f32⟩
  | 106 => ⟨S4096x4x128, .f32⟩
  | 107 => ⟨S4096x4x128, .f32⟩
  | 108 => ⟨S_, .f32⟩
  | 109 => ⟨S128, .f32⟩
  | 110 => ⟨S1x128, .f32⟩
  | 111 => ⟨S4096x4x128, .f32⟩
  | 112 => ⟨S_, .f32⟩
  | 113 => ⟨S4096x4, .f32⟩
  | 114 => ⟨S4096x4x1, .f32⟩
  | 115 => ⟨S4096x4x128, .f32⟩
  | 116 => ⟨S4096x4x128, .f32⟩
  | 117 => ⟨S4096x4x1, .f32⟩
  | 118 => ⟨S_, .f32⟩
  | 119 => ⟨S4096x4x1, .f32⟩
  | 120 => ⟨S4096x4x1, .f32⟩
  | 121 => ⟨S_, .f32⟩
  | 122 => ⟨S4096x4, .f32⟩
  | 123 => ⟨S4096x4x128, .f32⟩
  | 124 => ⟨S4096x4x128, .f32⟩
  | 125 => ⟨S4096x4x128, .f32⟩
  | 126 => ⟨S4096x4x128, .f32⟩
  | 127 => ⟨S4096x4x128, .f32⟩
  | _ => ⟨S4096x1024, .f32⟩

abbrev hbmTy0_1 (i : Nat) : BufTy := match i % 128 with
  | 0 => ⟨S4096x512, .f32⟩
  | 1 => ⟨S4096x512, .f32⟩
  | 2 => ⟨S4096x8x64, .f32⟩
  | 3 => ⟨S_, .f32⟩
  | 4 => ⟨S4096x8, .f32⟩
  | 5 => ⟨S1024x1024, .bf16⟩
  | 6 => ⟨S8x128, .f32⟩
  | 7 => ⟨S4096x512, .bf16⟩
  | 8 => ⟨S4096x512, .bf16⟩
  | 9 => ⟨S4096x8x64, .f32⟩
  | 10 => ⟨S4096x512, .f32⟩
  | 11 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v18_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v18_1 : Ref sig .tc := ⟨.hbm, 41, rfl⟩
abbrev main_v18_0 : Ref sig .tc := ⟨.hbm, 42, rfl⟩
abbrev main_v19 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_v20_2 : Ref sig .tc := ⟨.hbm, 51, rfl⟩
abbrev main_call1_cst_1 : Ref sig .tc := ⟨.hbm, 52, rfl⟩
abbrev main_call1_v6 : Ref sig .tc := ⟨.hbm, 53, rfl⟩
abbrev main_call1_v7 : Ref sig .tc := ⟨.hbm, 54, rfl⟩
abbrev main_v20_1 : Ref sig .tc := ⟨.hbm, 55, rfl⟩
abbrev main_v20_0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_cst_7 : Ref sig .tc := ⟨.hbm, 73, rfl⟩
abbrev main_v33 : Ref sig .tc := ⟨.hbm, 74, rfl⟩
abbrev main_cst_8 : Ref sig .tc := ⟨.hbm, 75, rfl⟩
abbrev main_cst_9 : Ref sig .tc := ⟨.hbm, 76, rfl⟩
abbrev main_v34 : Ref sig .tc := ⟨.hbm, 77, rfl⟩
abbrev main_v35 : Ref sig .tc := ⟨.hbm, 78, rfl⟩
abbrev main_cst_10 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_11 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_12 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_13 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_14 : Ref sig .tc := ⟨.hbm, 118, rfl⟩
abbrev main_v65 : Ref sig .tc := ⟨.hbm, 119, rfl⟩
abbrev main_v66 : Ref sig .tc := ⟨.hbm, 120, rfl⟩
abbrev main_cst_15 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_16 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x1536 : Shape := ⟨2, ![1024, 1536]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S4096x1536, .bf16⟩
  | .hbm, ⟨21, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S1024x1536 : Shape := ⟨2, ![1024, 1536]⟩
abbrev S4096 : Shape := ⟨1, ![4096]⟩
abbrev S4096x1 : Shape := ⟨2, ![4096, 1]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .f32⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1536, .f32⟩
  | .hbm, ⟨21, _⟩ => ⟨S1536x1024, .f32⟩
  | .hbm, ⟨22, _⟩ => ⟨S1024x1536, .f32⟩
  | .hbm, ⟨23, _⟩ => ⟨S1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4224 : Shape := ⟨2, ![1024, 4224]⟩
abbrev S4096x1536 : Shape := ⟨2, ![4096, 1536]⟩
abbrev S4096x512 : Shape := ⟨2, ![4096, 512]⟩
abbrev S4096x128 : Shape := ⟨2, ![4096, 128]⟩
abbrev S4224x1024 : Shape := ⟨2, ![4224, 1024]⟩
abbrev S8x1024 : Shape := ⟨2, ![8, 1024]⟩
abbrev S8x128 : Shape := ⟨2, ![8, 128]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S1536x1024 : Shape := ⟨2, ![1536, 1024]⟩
abbrev S512x1024 : Shape := ⟨2, ![512, 1024]⟩
abbrev S128x1024 : Shape := ⟨2, ![128, 1024]⟩
abbrev S256 : Shape := ⟨1, ![256]⟩
abbrev S256x1 : Shape := ⟨2, ![256, 1]⟩
abbrev S1024 : Shape := ⟨1, ![1024]⟩
abbrev S128 : Shape := ⟨1, ![128]⟩
abbrev S1x128 : Shape := ⟨2, ![1, 128]⟩

abbrev nBuf : Space → Nat
  | .hbm => 22
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4096x1024, .f32⟩
  | .hbm, ⟨4, _⟩ => ⟨S4096x1536, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x128, .f32⟩
  | .hbm, ⟨11, _⟩ => ⟨S4096x1536, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4224x1024, .f32⟩
  | .hbm, ⟨18, _⟩ => ⟨S4224x1024, .bf16⟩
  | .hbm, ⟨19, _⟩ => ⟨S4096x1024, .f32⟩
  | .hbm, ⟨20, _⟩ => ⟨S8x1024, .f32⟩
  | .hbm, ⟨21, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4224x1024, .bf16⟩
  | .local _ .vmem, ⟨4, _⟩ => ⟨S256x1024, .f32⟩
  | .local _ .vmem, ⟨5, _⟩ => ⟨S256x1024, .f32⟩
  | .local _ .vmem, ⟨6, _⟩ => ⟨S256x1536, .bf16⟩
  | .local _ .vmem, ⟨7, _⟩ => ⟨S256x1536, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x128, .f32⟩
  | .local _ .vmem, ⟨19, _⟩ => ⟨S256x128, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | .local _ .vmem, ⟨23, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S4096x1024 : Shape := ⟨2, ![4096, 1024]⟩
abbrev S1x1024 : Shape := ⟨2, ![1, 1024]⟩
abbrev S1024x4224 : Shape := ⟨2, ![1024, 4224]⟩
abbrev S4096x1536 : Shape := ⟨2, ![4096, 1536]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S1024x512 : Shape := ⟨2, ![1024, 512]⟩
abbrev S1024x128 : Shape := ⟨2, ![1024, 128]⟩
abbrev S1024 : Shape := ⟨1, ![1024]⟩
abbrev S8x1024 : Shape := ⟨2, ![8, 1024]⟩
abbrev S128 : Shape := ⟨1, ![128]⟩
abbrev S1x128 : Shape := ⟨2, ![1, 128]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4096x1024, .f32⟩
  | .hbm, ⟨4, _⟩ => ⟨S4096x1536, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x128, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1536, .f32⟩
  | .hbm, ⟨31, _⟩ => ⟨S4096x1536, .f32⟩
  | .hbm, ⟨32, _⟩ => ⟨S1024x512, .f32⟩
  | .hbm, ⟨33, _⟩ => ⟨S4096x512, .f32⟩
  | .hbm, ⟨34, _⟩ => ⟨S1024x512, .f32⟩
  | .hbm, ⟨35, _⟩ => ⟨S4096x512, .f32⟩
  | .hbm, ⟨36, _⟩ => ⟨S1024x512, .f32⟩
  | .hbm, ⟨37, _⟩ => ⟨S4096x512, .f32⟩
  | .hbm, ⟨38, _⟩ => ⟨S1024x512, .f32⟩
  | .hbm, ⟨39, _⟩ => ⟨S4096x512, .f32⟩
  | .hbm, ⟨40, _⟩ => ⟨S1024x512, .f32⟩
  | .hbm, ⟨41, _⟩ => ⟨S4096x512, .f32⟩
  | .hbm, ⟨42, _⟩ => ⟨S1024x128, .f32⟩
  | .hbm, ⟨43, _⟩ => ⟨S4096x128, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S8x1024, .f32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x4224 : Shape := ⟨2, ![1024, 4224]⟩
abbrev S4x1536 : Shape := ⟨2, ![4, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x512 : Shape := ⟨2, ![4096, 512]⟩
abbrev S4096x128 : Shape := ⟨2, ![4096, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S8x1536 : Shape := ⟨2, ![8, 1536]⟩
abbrev S1024x512 : Shape := ⟨2, ![1024, 512]⟩
abbrev S1024x1536 : Shape := ⟨2, ![1024, 1536]⟩
abbrev S1024x128 : Shape := ⟨2, ![1024, 128]⟩
abbrev S520x1536 : Shape := ⟨2, ![520, 1536]⟩
abbrev S520x128 : Shape := ⟨2, ![520, 128]⟩
abbrev S1x128 : Shape := ⟨2, ![1, 128]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x4224, .bf16⟩
  | .hbm, ⟨21, _⟩ => ⟨S4096x1536, .f32⟩
  | .hbm, ⟨22, _⟩ => ⟨S4096x1536, .f32⟩
  | .hbm, ⟨23, _⟩ => ⟨S4096x512, .f32⟩
  | .hbm, ⟨24, _⟩ => ⟨S4096x1536, .f32⟩
  | .hbm, ⟨25, _⟩ => ⟨S4096x512, .f32⟩
  | .hbm, ⟨26, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x4224, .bf16⟩
  | .local _ .vmem, ⟨3, _⟩ => ⟨S4x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x1536, .f32⟩
  | .local _ .vmem, ⟨11, _⟩ => ⟨S512x1536, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S8x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x1024 : Shape := ⟨2, ![4096, 1024]⟩
abbrev S1x1024 : Shape := ⟨2, ![1, 1024]⟩
abbrev S1024x4224 : Shape := ⟨2, ![1024, 4224]⟩
abbrev S4x1536 : Shape := ⟨2, ![4, 1536]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩
abbrev S4096x1536 : Shape := ⟨2, ![4096, 1536]⟩
abbrev S4096x512 : Shape := ⟨2, ![4096, 512]⟩
abbrev S4096x128 : Shape := ⟨2, ![4096, 128]⟩
abbrev S4099x1536 : Shape := ⟨2, ![4099, 1536]⟩
abbrev S1x1536 : Shape := ⟨2, ![1, 1536]⟩
abbrev S1536 : Shape := ⟨1, ![1536]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4224, .f32⟩
  | .hbm, ⟨20, _⟩ => ⟨S4096x1536, .f32⟩
  | .hbm, ⟨21, _⟩ => ⟨S4096x512, .f32⟩
  | .hbm, ⟨22, _⟩ => ⟨S4096x1536, .f32⟩
  | .hbm, ⟨23, _⟩ => ⟨S4096x512, .f32⟩
  | .hbm, ⟨24, _⟩ => ⟨S4096x128, .f32⟩
  | .hbm, ⟨25, _⟩ => ⟨S_, .i32⟩
  | .hbm, ⟨26, _⟩ => ⟨S_, .f32⟩
  | .hbm, ⟨27, _⟩ => ⟨S4099x1536, .f32⟩
  | .hbm, ⟨28, _⟩ => ⟨S4096x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S1x1536, .f32⟩
  | .hbm, ⟨43, _⟩ => ⟨S1536, .f32⟩
  | .hbm, ⟨44, _⟩ => ⟨S1x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S4096x1536, .f32⟩
  | .hbm, ⟨57, _⟩ => ⟨S_, .f32⟩
  | .hbm, ⟨58, _⟩ => ⟨S4096x1536, .f32⟩
  | .hbm, ⟨59, _⟩ => ⟨S4096x1536, .f32⟩
  | .hbm, ⟨60, _⟩ => ⟨S_, .f32⟩
  | .hbm, ⟨61, _⟩ => ⟨S4096x1536, .f32⟩
  | .hbm, ⟨62, _⟩ => ⟨S4096x1536, .f32⟩
  | .hbm, ⟨63, _⟩ => ⟨S4096x1536, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x4x128, .f32⟩
  | .hbm, ⟨68, _⟩ => ⟨S4096x4x128, .f32⟩
  | .hbm, ⟨69, _⟩ => ⟨S_, .f32⟩
  | .hbm, ⟨70, _⟩ => ⟨S4096x4, .f32⟩
  | .hbm, ⟨71, _⟩ => ⟨S4096x4x1, .f32⟩
  | .hbm, ⟨72, _⟩ => ⟨S_, .f32⟩
  | .hbm, ⟨73, _⟩ => ⟨S4096x4x1, .f32⟩
  | .hbm, ⟨74, _⟩ => ⟨S4096x4x1, .f32⟩
  | .hbm, ⟨75, _⟩ => ⟨S4096x4x1, .f32⟩
  | .hbm, ⟨76, _⟩ => ⟨S4096x4x128, .f32⟩
  | .hbm, ⟨77, _⟩ => ⟨S4096x4x128, .f32⟩
  | .hbm, ⟨78, _⟩ => ⟨S4096x512, .f32⟩
  | .hbm, ⟨79, _⟩ => ⟨S_, .f32⟩
  | .hbm, ⟨80, _⟩ => ⟨S4096x512, .f32⟩
  | .hbm, ⟨81, _⟩ => ⟨S4096x512, .f32⟩
  | .hbm, ⟨82, _⟩ => ⟨S4096x4x128, .f32⟩
  | .hbm, ⟨83, _⟩ => ⟨S4096x4x128, .f32⟩
  | .hbm, ⟨84, _⟩ => ⟨S_, .f32⟩
  | .hbm, ⟨85, _⟩ => ⟨S4096x4, .f32⟩
  | .hbm, ⟨86, _⟩ => ⟨S4096x4x1, .f32⟩
  | .hbm, ⟨87, _⟩ => ⟨S_, .f32⟩
  | .hbm, ⟨88, _⟩ => ⟨S4096x4x1, .f32⟩
  | .hbm, ⟨89, _⟩ => ⟨S4096x4x1, .f32⟩
  | .hbm, ⟨90, _⟩ => ⟨S4096x4x1, .f32⟩
  | .hbm, ⟨91, _⟩ => ⟨S4096x4x128, .f32⟩
  | .hbm, ⟨92, _⟩ => ⟨S4096x4x128, .f32⟩
  | .hbm, ⟨93, _⟩ => ⟨S4096x512, .f32⟩
  | .hbm, ⟨94, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_2 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.Blocks.lean ====
/- What the body of `outproj_both` makes of one grid point's blocks, as functions over any float values: the block of
   each output, and the three carried arrays (the loss, the gradient of the norm's weight, the weight gradient's
   accumulator) as one step of a running state. The heads' blocks are functions of the head's number. -/
module

public import proofs.«01_k».proof.Proof.Gen.KernelIdeal.Frame.Runs
public import Idealize.ShloMosaic.Lib.Pipeline.Value
public import Idealize.ShloMosaic.Lib.MatmulPlain

@[expose] public section

set_option maxRecDepth 16384

noncomputable section

namespace Cert.KernelIdeal.Out

open Idealize.ShloMosaic Idealize.ShloMosaic.TcCoe Idealize.ShloMosaic.Tactic
open Idealize.ShloMosaic.ValueIdx Cert.KernelIdeal Cert.KernelIdeal.Gen

variable {F : FTy → Type} [FloatOps F]

/-- The blocks the thirteen inputs show at one grid point. -/
structure Ins (F : FTy → Type) where
  x : Vec F S512x1024 .f32
  ydn : Vec F S512x512 .bf16
  yatt : Vec F S512x512 .bf16
  w : Vec F S1024x1024 .bf16
  tgt : Vec F S512x1024 .f32
  wt : Vec F S1024x1024 .bf16
  o : Vec F S512x512 .f32
  z : Vec F S512x512 .f32
  nw : Vec F S1x128 .f32
  oa : Vec F S512x512 .f32
  ga : Vec F S512x512 .f32
  g : Vec F S512x128 .f32
  gt : Vec F S128x512 .f32

/-- The arrays a point hands to the next: loss, norm-weight gradient, weight-gradient accumulator. -/
structure St (F : FTy → Type) where
  loss : Vec F S8x128 .f32
  nw : Vec F S8x128 .f32
  acc : Vec F S1024x1024 .f32

/-- The 128 lanes of head `k` in a block of the four heads. -/
def cols {α : Type} (k : Fin 4) (v : S512x512.Idx → α) : S512x128.Idx → α :=
  fun j => v (ix2 (j 0) ⟨128 * k.val + (j 1).val, by have := (j 1).isLt; have := k.isLt; simp at *; omega⟩)

/-- The 128 lanes of head `k` in a block of the model's width. -/
def dcols {α : Type} (k : Fin 4) (v : S512x1024.Idx → α) : S512x128.Idx → α :=
  fun j => v (ix2 (j 0) ⟨128 * k.val + (j 1).val, by have := (j 1).isLt; have := k.isLt; simp at *; omega⟩)

/-- The head a lane belongs to. -/
def headOf (y : S512x512.Idx) : Fin 4 := ⟨(y 1).val / 128, by have := (y 1).isLt; simp at *; omega⟩
/-- A lane's place within its head. -/
def inHead (y : S512x512.Idx) : S512x128.Idx := ix2 (y 0) ⟨(y 1).val % 128, Nat.mod_lt _ (by decide)⟩

variable (I : Ins F) (s : St F)

/-- The gradient of the layer's output. -/
def dyB : Vec F S512x1024 .f32 := k0_pay8 I.ydn I.yatt I.x I.w I.tgt
/-- The gradient of the gated branch outputs, side by side. -/
def dmixB : Vec F S512x1024 .f32 := k0_pay13 (dyB I) I.wt

/-- One head's gradient of the DeltaNet output, from the head's lanes. -/
def headDo (nw : Vec F S1x128 .f32) (o z dm : Vec F S512x128 .f32) : Vec F S512x128 .f32 :=
  k0_pay22 nw dm (k0_pay16 o) (k0_pay17 o) (k0_pay19 z)
/-- One head's gradient of the gate's input. -/
def headDz (nw : Vec F S1x128 .f32) (o z dm : Vec F S512x128 .f32) : Vec F S512x128 .bf16 :=
  k0_pay20 nw z dm (k0_pay17 o) (k0_pay18 z)
/-- The norm weight's gradient with one more head added. -/
def headNw (a : Vec F S1x128 .f32) (o z dm : Vec F S512x128 .f32) : Vec F S1x128 .f32 :=
  k0_pay23 a dm (k0_pay17 o) (k0_pay19 z)

def headDoOf (k : Fin 4) : Vec F S512x128 .f32 := headDo I.nw (cols k I.o) (cols k I.z) (dcols k (dmixB I))
def headDzOf (k : Fin 4) : Vec F S512x128 .bf16 := headDz I.nw (cols k I.o) (cols k I.z) (dcols k (dmixB I))
def headNwOf (k : Fin 4) (a : Vec F S1x128 .f32) : Vec F S1x128 .f32 :=
  headNw a (cols k I.o) (cols k I.z) (dcols k (dmixB I))

/-- The block of the DeltaNet output's gradient: each head's own. -/
def doB : Vec F S512x512 .f32 := fun y => headDoOf I (headOf y) (inHead y)
/-- The block of the gate input's gradient: each head's own. -/
def dzB : Vec F S512x512 .bf16 := fun y => headDzOf I (headOf y) (inHead y)

/-- The attention output's gradient. -/
def doaB : Vec F S512x512 .f32 := k0_pay54 (dmixB I) I.ga
/-- The attention gate's gradient. -/
def dgB : Vec F S512x512 .bf16 := k0_pay1 (k0_pay53 I.ga) (k0_pay55 (dmixB I) I.oa)
/-- Each head's sum of `doa · oa`, at every lane of the head. -/
def ddB : Vec F S512x512 .f32 := k0_pay2 I.oa (doaB I) I.g I.gt

/-- What one point adds to the norm weight's gradient. -/
def nwB : Vec F S1x128 .f32 := headNwOf I 3 (headNwOf I 2 (headNwOf I 1 (headNwOf I 0 k0_pay14)))

/-- The running arrays after one more point. -/
def step : St F where
  loss := k0_pay9 I.ydn I.yatt I.x I.w I.tgt s.loss
  nw := addf s.nw (broadcastTo S8x128 (nwB I) broadcasts_S1x128_S8x128)
  acc := k0_pay11 (dyB I) s.acc (k0_pay10 I.ydn I.yatt)

/-- The running arrays before the first point: zero. -/
def start : St F := ⟨k0_pay3, k0_pay4, k0_pay5⟩

/-! ## Reading what a list of stores left -/

theorem hz2 : (![0, 0] : Fin 2 → Nat) = fun _ => 0 := by funext a; fin_cases a <;> rfl

/-- A buffer whose last store covered it reads that store's payload. -/
theorem read_full {sp : Space} {S : Shape} {e : EltTy} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb w L]

/-- The rectangle of head `k`'s lanes. -/
abbrev headRect (k : Nat) (h : ∀ a, (![0, k] : Fin 2 → Nat) a + S512x128.size a ≤ S512x512.size a) : Rect S512x512 :=
  Rect.unit (s := S512x512) ![0, k] S512x128.size h

/-- Where place `j` of head `k` lies in the block. -/
def place (k : Fin 4) (j : S512x128.Idx) : S512x512.Idx :=
  ix2 (j 0) ⟨128 * k.val + (j 1).val, by have := (j 1).isLt; have := k.isLt; simp at *; omega⟩

theorem headRect_emb (k : Fin 4) (h : ∀ a, (![0, 128 * k.val] : Fin 2 → Nat) a + S512x128.size a ≤ S512x512.size a)
    (j : S512x128.Idx) : (headRect (128 * k.val) h).emb j = place k j := by
  funext a; apply Fin.ext; fin_cases a
  · show 0 + 1 * (j 0).val = (j 0).val; omega
  · show 128 * k.val + 1 * (j 1).val = 128 * k.val + (j 1).val; omega

theorem headOf_place (k : Fin 4) (j : S512x128.Idx) : headOf (place k j) = k := by
  apply Fin.ext; have := (j 1).isLt; show (128 * k.val + (j 1).val) / 128 = k.val; simp at this; omega

theorem inHead_place (k : Fin 4) (j : S512x128.Idx) : inHead (place k j) = j := by
  funext a; apply Fin.ext; have := (j 1).isLt; fin_cases a
  · rfl
  · show (128 * k.val + (j 1).val) % 128 = (j 1).val; simp at this; omega

/-- A block stored as four heads' lanes reads each head's payload at its lanes. -/
theorem read_heads {sp : Space} {e : EltTy} (v : View sig .tc sp S512x512 e) (f : v.ty.Contents (Elt F))
    (h0 : ∀ a, (![0, 0] : Fin 2 → Nat) a + S512x128.size a ≤ S512x512.size a)
    (h1 : ∀ a, (![0, 128] : Fin 2 → Nat) a + S512x128.size a ≤ S512x512.size a)
    (h2 : ∀ a, (![0, 256] : Fin 2 → Nat) a + S512x128.size a ≤ S512x512.size a)
    (h3 : ∀ a, (![0, 384] : Fin 2 → Nat) a + S512x128.size a ≤ S512x512.size a)
    (G : Fin 4 → S512x128.Idx → Elt F e) :
    v.read (Elt F) (v.writes (Elt F) f [⟨headRect 384 h3, G 3⟩, ⟨headRect 256 h2, G 2⟩, ⟨headRect 128 h1, G 1⟩,
      ⟨headRect 0 h0, G 0⟩]) = fun y => G (headOf y) (inHead y) := by
  have key : ∀ (k : Fin 4) (h : ∀ a, (![0, 128 * k.val] : Fin 2 → Nat) a + S512x128.size a ≤ S512x512.size a)
      (j : S512x128.Idx), G k j = (fun y => G (headOf y) (inHead y)) ((headRect (128 * k.val) h).emb j) := by
    intro k h j
    rw [headRect_emb]; show G k j = G (headOf (place k j)) (inHead (place k j)); rw [headOf_place, inHead_place]
  have cover : ∀ y : S512x512.Idx, ∃ p ∈ ([⟨headRect 384 h3, G 3⟩, ⟨headRect 256 h2, G 2⟩, ⟨headRect 128 h1, G 1⟩,
      ⟨headRect 0 h0, G 0⟩] : List (View.Piece (Elt F) S512x512 e)), y ∈ p.1.set := by
    intro y
    have hy0 := (y 0).isLt; have hy1 := (y 1).isLt
    simp at hy0 hy1
    simp only [List.mem_cons, List.not_mem_nil, or_false, exists_eq_or_imp, exists_eq_left, Rect.mem_set_unit,
      Fin.forall_fin_two]
    simp
    omega
  rw [View.read_writes_eq_canon _ _ _ cover]
  funext y
  refine View.canon_apply_of_pieces (fun y => G (headOf y) (inHead y)) _ (fun p hp j => ?_) y (cover y)
  simp only [List.mem_cons, List.not_mem_nil, or_false] at hp
  rcases hp with rfl | rfl | rfl | rfl
  · exact key 3 h3 j
  · exact key 2 h2 j
  · exact key 1 h1 j
  · exact key 0 h0 j

/-- A load of head `k`'s lanes is the head's lanes. -/
theorem ld_head {e : EltTy} (k : Fin 4) (v : S512x512.Idx → Elt F e)
    (h : ∀ a, (![0, 128 * k.val] : Fin 2 → Nat) a + S512x128.size a ≤ S512x512.size a) :
    View.ld v (headRect (128 * k.val) h) = cols k v := by
  funext j; show v ((headRect (128 * k.val) h).emb j) = _; rw [headRect_emb]; rfl

theorem slice_head (k : Fin 4) (v : FVec F S512x1024 .f32) (h : S512x1024.Slices ![0, 128 * k.val] S512x128) :
    extractStridedSlice S512x128 ![0, 128 * k.val] v h = dcols k v := by
  funext j; unfold extractStridedSlice dcols
  refine congrArg v ?_
  funext a; apply Fin.ext; fin_cases a
  · show 0 + (j 0).val = (j 0).val; omega
  · rfl

/-! ## The printed heads are the one head -/

theorem ld_512x512 {e : EltTy} (v : S512x512.Idx → Elt F e) (h) :
    View.ld v (Rect.unit (s := S512x512) ![0, 0] ![512, 512] h) = v := View.ld_unit_zero hz2 h v
theorem ld_512x1024 {e : EltTy} (v : S512x1024.Idx → Elt F e) (h) :
    View.ld v (Rect.unit (s := S512x1024) ![0, 0] ![512, 1024] h) = v := View.ld_unit_zero hz2 h v
theorem ld_1024x1024 {e : EltTy} (v : S1024x1024.Idx → Elt F e) (h) :
    View.ld v (Rect.unit (s := S1024x1024) ![0, 0] ![1024, 1024] h) = v := View.ld_unit_zero hz2 h v
theorem ld_1x128 {e : EltTy} (v : S1x128.Idx → Elt F e) (h) :
    View.ld v (Rect.unit (s := S1x128) ![0, 0] ![1, 128] h) = v := View.ld_unit_zero hz2 h v
theorem ld_512x128 {e : EltTy} (v : S512x128.Idx → Elt F e) (h) :
    View.ld v (Rect.unit (s := S512x128) ![0, 0] ![512, 128] h) = v := View.ld_unit_zero hz2 h v
theorem ld_128x512 {e : EltTy} (v : S128x512.Idx → Elt F e) (h) :
    View.ld v (Rect.unit (s := S128x512) ![0, 0] ![128, 512] h) = v := View.ld_unit_zero hz2 h v
theorem ld_8x128 {e : EltTy} (v : S8x128.Idx → Elt F e) (h) :
    View.ld v (Rect.unit (s := S8x128) ![0, 0] ![8, 128] h) = v := View.ld_unit_zero hz2 h v
theorem cov_8x128 {sp : Space} {e : EltTy} (r : View sig .tc sp S8x128 e) (v : S8x128.Idx → Elt F e) (h h') :
    r.readCov [⟨Rect.unit (s := S8x128) ![0, 0] ![8, 128] h, v⟩] (Rect.unit (s := S8x128) ![0, 0] ![8, 128] h').toLoadRect = v :=
  View.readCov_unit_zero r hz2 h v
theorem cov_1024x1024 {sp : Space} {e : EltTy} (r : View sig .tc sp S1024x1024 e) (v : S1024x1024.Idx → Elt F e) (h h') :
    r.readCov [⟨Rect.unit (s := S1024x1024) ![0, 0] ![1024, 1024] h, v⟩] (Rect.unit (s := S1024x1024) ![0, 0] ![1024, 1024] h').toLoadRect = v :=
  View.readCov_unit_zero r hz2 h v

theorem ld_head0 {e : EltTy} (v : S512x512.Idx → Elt F e) (h) :
    View.ld v (Rect.unit (s := S512x512) ![0, 0] ![512, 128] h) = cols 0 v := ld_head 0 v h
theorem ld_head1 {e : EltTy} (v : S512x512.Idx → Elt F e) (h) :
    View.ld v (Rect.unit (s := S512x512) ![0, 128] ![512, 128] h) = cols 1 v := ld_head 1 v h
theorem ld_head2 {e : EltTy} (v : S512x512.Idx → Elt F e) (h) :
    View.ld v (Rect.unit (s := S512x512) ![0, 256] ![512, 128] h) = cols 2 v := ld_head 2 v h
theorem ld_head3 {e : EltTy} (v : S512x512.Idx → Elt F e) (h) :
    View.ld v (Rect.unit (s := S512x512) ![0, 384] ![512, 128] h) = cols 3 v := ld_head 3 v h

section heads
variable (d : FVec F S512x1024 .f32) (wt : Vec F S1024x1024 .bf16) (nw a : Vec F S1x128 .f32)
  (o z dm : Vec F S512x128 .f32)

theorem dm0 : k0_pay15 d wt = dcols 0 (k0_pay13 d wt) := slice_head 0 _ slices_S512x1024_o0_0_S512x128
theorem dm1 : k0_pay24 d = dcols 1 d := slice_head 1 _ slices_S512x1024_o0_128_S512x128
theorem dm2 : k0_pay33 d = dcols 2 d := slice_head 2 _ slices_S512x1024_o0_256_S512x128
theorem dm3 : k0_pay41 d = dcols 3 d := slice_head 3 _ slices_S512x1024_o0_384_S512x128

theorem do0 : k0_pay22 nw dm (k0_pay16 o) (k0_pay17 o) (k0_pay19 z) = headDo nw o z dm := rfl
theorem do1 : k0_pay31 nw o z dm (k0_pay25 o) (k0_pay26 o) = headDo nw o z dm := rfl
theorem do2 : k0_pay39 nw o z dm = headDo nw o z dm := rfl
theorem do3 : k0_pay49 (k0_pay42 o) (k0_pay43 o) (k0_pay47 d nw z) (k0_pay48 d nw o z) = headDo nw o z (dcols 3 d) := by
  unfold k0_pay48 k0_pay47 k0_pay46; rw [dm3]; rfl

theorem dz0 : k0_pay20 nw z dm (k0_pay17 o) (k0_pay18 z) = headDz nw o z dm := rfl
theorem dz1 : k0_pay29 nw o z dm (k0_pay26 o) = headDz nw o z dm := rfl
theorem dz2 : k0_pay37 nw o z dm = headDz nw o z dm := rfl
theorem dz3 : k0_pay45 d nw o z = headDz nw o z (dcols 3 d) := by unfold k0_pay45; rw [dm3]; rfl

theorem nw0 : k0_pay23 a dm (k0_pay17 o) (k0_pay19 z) = headNw a o z dm := rfl
theorem nw1 : k0_pay32 a o z dm (k0_pay26 o) = headNw a o z dm := rfl
theorem nw2 : k0_pay40 a (k0_pay35 o) (k0_pay38 z dm) = headNw a o z dm := rfl
theorem nw3 (v : Vec F S8x128 .f32) : k0_pay50 a (k0_pay43 o) (k0_pay46 d z) v
    = addf v (broadcastTo S8x128 (headNw a o z (dcols 3 d)) broadcasts_S1x128_S8x128) := by
  unfold k0_pay50 k0_pay46; rw [dm3]; simp only [shapeCast_self]; rfl
end heads

end Cert.KernelIdeal.Out

end
-- ==== Proof.RunA.lean ====
/- The body of `outproj_both` at the first point, which zeroes the running arrays. -/
module

public import proofs.«01_k».proof.Proof.Blocks

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- On whole staging buffers, the inputs' at their blocks, the body at the first point, which zeroes the running arrays leaves every output's
    block and the running arrays one step on. -/
theorem body_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S128x512 .f32) (harg13 : arg13.IsWhole) (arg14 : Memref sig .tc .vmem S512x1024 .f32) (harg14 : arg14.IsWhole) (arg15 : Memref sig .tc .vmem S1024x1024 .bf16) (harg15 : arg15.IsWhole) (arg16 : Memref sig .tc .vmem S8x128 .f32) (harg16 : arg16.IsWhole) (arg17 : Memref sig .tc .vmem S512x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S8x128 .f32) (harg22 : arg22.IsWhole) (arg23 : Memref sig .tc .vmem S1024x1024 .f32) (harg23 : arg23.IsWhole)
    (hc0 : cond0_0 i) (hc1 : ¬cond0_1 i) (I : Ins F) (xi : Vec F S1024x1024 .bf16) (E : Set ℕ) (K : PUnit → sProp 𝕄) :
    iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ (∃ d, owns (c : Thread nD τ) arg14 fullShare d) ∗ owns (c : Thread nD τ) arg15 fullShare xi ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ owns (c : Thread nD τ) arg14 fullShare (dyB I) ∗ owns (c : Thread nD τ) arg15 fullShare xi ∗ owns (c : Thread nD τ) arg16 fullShare ((step I start).loss) ∗ owns (c : Thread nD τ) arg17 fullShare (doB I) ∗ owns (c : Thread nD τ) arg18 fullShare (dzB I) ∗ owns (c : Thread nD τ) arg19 fullShare (doaB I) ∗ owns (c : Thread nD τ) arg20 fullShare (dgB I) ∗ owns (c : Thread nD τ) arg21 fullShare (ddB I) ∗ owns (c : Thread nD τ) arg22 fullShare ((step I start).nw) ∗ owns (c : Thread nD τ) arg23 fullShare ((step I start).acc)) -∗ K ⟨⟩))
      ⊢ wp frame (wpE (defs₀ (F := F)) Variants.none c none) E (cc0_outproj_both i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_outproj_both_eq_skeleton]; unfold cc0_outproj_both_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg15.eq_unread hf14
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H14]
  · iexists _; isplitr; · ipureintro; exact harg15.read_unread _
    iexact H14
  isplitl [H15]
  · iexists _; isplitr; swap; · iexact H15
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H16]
  · iexists _; isplitr; swap; · iexact H16
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, do0, do1, do2, do3]
    exact read_heads _ _ _ _ _ _ (headDoOf I)
  isplitl [H17]
  · iexists _; isplitr; swap; · iexact H17
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, dz0, dz1, dz2, dz3]
    exact read_heads _ _ _ _ _ _ (headDzOf I)
  isplitl [H18]
  · iexists _; isplitr; swap; · iexact H18
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H19]
  · iexists _; isplitr; swap; · iexact H19
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H20]
  · iexists _; isplitr; swap; · iexact H20
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H21]
  · iexists _; isplitr; swap; · iexact H21
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024, ld_head0, ld_head1, ld_head2, ld_head3, dm0, dm1, dm2, nw0, nw1, nw2, nw3]
    rfl
  iexists _; isplitr; swap; · iexact H22
  ipureintro
  refine (read_full _ _ hz2 _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
  rfl

end Cert.KernelIdeal.Out

end
-- ==== Proof.Points.lean ====
/- What every staging buffer and running array of `outproj_both` holds point by point (`ins`, `stN`, `dats`), and the body's
   obligation at a point stated of it. The set-up follows the library's launches. -/
module

public import proofs.«01_k».proof.Proof.Blocks
public import proofs.«01_k».proof.Proof.Gen.KernelIdeal.Frame.Runs
public import Idealize.ShloMosaic.Lib.Claim

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks at point `t`. -/
def ins (c : Dev nD) (t : Fin cfg0.N) : Ins F where
  x := iblk m c 0 t
  ydn := iblk m c 1 t
  yatt := iblk m c 2 t
  w := iblk m c 3 t
  tgt := iblk m c 4 t
  wt := iblk m c 5 t
  o := iblk m c 6 t
  z := iblk m c 7 t
  nw := iblk m c 8 t
  oa := iblk m c 9 t
  ga := iblk m c 10 t
  g := iblk m c 11 t
  gt := iblk m c 12 t

/-- The running arrays before point `n`. -/
def stN (c : Dev nD) : ℕ → St F
  | 0 => start
  | n + 1 => if h : n < cfg0.N then step (ins m c ⟨n, h⟩) (stN c n) else stN c n

theorem stN_succ (c : Dev nD) (t : Fin cfg0.N) : stN m c (t.val + 1) = step (ins m c t) (stN m c t.val) := by
  show (if h : t.val < cfg0.N then step (ins m c ⟨t.val, h⟩) (stN m c t.val) else _) = _
  rw [dif_pos t.isLt]

/-- What is owned between points: before the first what the region gives, then the accumulator at its contents. -/
def PhiS (c : Dev nD) : (n : ℕ) → n ≤ cfg0.N → sProp 𝕄
  | 0, _ => Pipeline.ΦA spec0 c
  | n + 1, _ => iprop(iprop(owns (c : Thread nD τ) scM0_0 fullShare (stN m c (n + 1)).acc) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn
    = iprop(iprop(owns (c : Thread nD τ) scM0_0 fullShare (stN m c (n + 1)).acc) ∗ (∃ r, prngReg c r)) := rfl
theorem PhiS_pos (c : Dev nD) (n : ℕ) (h : n ≤ cfg0.N) (hz : n ≠ 0) : PhiS m c n h
    = iprop(iprop(owns (c : Thread nD τ) scM0_0 fullShare (stN m c n).acc) ∗ (∃ r, prngReg c r)) := by
  cases n with
  | zero => exact absurd rfl hz
  | succ n => rfl

/-- The pipeline's data: an input's buffer holds its block, an output's what the body makes of the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dyB (ins m c t)
    | ⟨14, _⟩ => k0_pay12 (stN m c (t.val + 1)).acc
    | ⟨15, _⟩ => (stN m c (t.val + 1)).loss
    | ⟨16, _⟩ => doB (ins m c t)
    | ⟨17, _⟩ => dzB (ins m c t)
    | ⟨18, _⟩ => doaB (ins m c t)
    | ⟨19, _⟩ => dgB (ins m c t)
    | ⟨20, _⟩ => ddB (ins m c t)
    | ⟨21, _⟩ => (stN m c (t.val + 1)).nw
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = dyB (ins m c t) := by dsimp only [dats]
theorem after0_14 (c : Dev nD) (t : Fin cfg0.N) : (dats m 0 c).after 14 t = k0_pay12 (stN m c (t.val + 1)).acc := by dsimp only [dats]
theorem after0_15 (c : Dev nD) (t : Fin cfg0.N) : (dats m 0 c).after 15 t = (stN m c (t.val + 1)).loss := by dsimp only [dats]
theorem after0_16 (c : Dev nD) (t : Fin cfg0.N) : (dats m 0 c).after 16 t = doB (ins m c t) := by dsimp only [dats]
theorem after0_17 (c : Dev nD) (t : Fin cfg0.N) : (dats m 0 c).after 17 t = dzB (ins m c t) := by dsimp only [dats]
theorem after0_18 (c : Dev nD) (t : Fin cfg0.N) : (dats m 0 c).after 18 t = doaB (ins m c t) := by dsimp only [dats]
theorem after0_19 (c : Dev nD) (t : Fin cfg0.N) : (dats m 0 c).after 19 t = dgB (ins m c t) := by dsimp only [dats]
theorem after0_20 (c : Dev nD) (t : Fin cfg0.N) : (dats m 0 c).after 20 t = ddB (ins m c t) := by dsimp only [dats]
theorem after0_21 (c : Dev nD) (t : Fin cfg0.N) : (dats m 0 c).after 21 t = (stN m c (t.val + 1)).nw := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- After the first point window 15's buffer holds what the point before left. -/
theorem before0_15 (c : Dev nD) (t : Fin cfg0.N) (h0 : t.val ≠ 0) (d) :
    (dats m 0 c).before 15 t d = (stN m c t.val).loss := by
  have hN : t.val < 8 := lt_of_lt_of_eq t.isLt (show cfg0.N = 8 from N_0)
  rw [Dat.before_out_kept _ 15 rfl t (by omega)
    (Bool.eq_false_iff.mpr fun h => by have := (flush0_15 _).mp h; dsimp only at this; omega)
    (fun _ => rfl) (fun _ _ => rfl), after0_15]
  dsimp only; rw [Nat.sub_add_cancel (by omega)]
/-- After the first point window 21's buffer holds what the point before left. -/
theorem before0_21 (c : Dev nD) (t : Fin cfg0.N) (h0 : t.val ≠ 0) (d) :
    (dats m 0 c).before 21 t d = (stN m c t.val).nw := by
  have hN : t.val < 8 := lt_of_lt_of_eq t.isLt (show cfg0.N = 8 from N_0)
  rw [Dat.before_out_kept _ 21 rfl t (by omega)
    (Bool.eq_false_iff.mpr fun h => by have := (flush0_21 _).mp h; dsimp only at this; omega)
    (fun _ => rfl) (fun _ _ => rfl), after0_21]
  dsimp only; rw [Nat.sub_add_cancel (by omega)]
theorem leaves0_0 (c : Dev nD) (t : Fin cfg0.N) : (dats m 0 c).leavesExact 0 t
    = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t
    = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t
    = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t
    = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t
    = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t
    = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t
    = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t
    = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t
    = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t
    = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t
    = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t
    = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t
    = owns (c : Thread nD τ) (ms0_12 t) fullShare ((dats m 0 c).after 12 t) := by
  unfold Dat.leavesExact; rw [liveAt0_12 t]
theorem leaves0_13 (c : Dev nD) (t : Fin cfg0.N) : (dats m 0 c).leavesExact 13 t
    = owns (c : Thread nD τ) (ms0_13 t) fullShare ((dats m 0 c).after 13 t) := by
  unfold Dat.leavesExact; rw [liveAt0_13 t]
theorem leaves0_15 (c : Dev nD) (t : Fin cfg0.N) : (dats m 0 c).leavesExact 15 t
    = owns (c : Thread nD τ) (ms0_15 t) fullShare ((dats m 0 c).after 15 t) := by
  unfold Dat.leavesExact; rw [liveAt0_15 t]
theorem leaves0_16 (c : Dev nD) (t : Fin cfg0.N) : (dats m 0 c).leavesExact 16 t
    = owns (c : Thread nD τ) (ms0_16 t) fullShare ((dats m 0 c).after 16 t) := by
  unfold Dat.leavesExact; rw [liveAt0_16 t]
theorem leaves0_17 (c : Dev nD) (t : Fin cfg0.N) : (dats m 0 c).leavesExact 17 t
    = owns (c : Thread nD τ) (ms0_17 t) fullShare ((dats m 0 c).after 17 t) := by
  unfold Dat.leavesExact; rw [liveAt0_17 t]
theorem leaves0_18 (c : Dev nD) (t : Fin cfg0.N) : (dats m 0 c).leavesExact 18 t
    = owns (c : Thread nD τ) (ms0_18 t) fullShare ((dats m 0 c).after 18 t) := by
  unfold Dat.leavesExact; rw [liveAt0_18 t]
theorem leaves0_19 (c : Dev nD) (t : Fin cfg0.N) : (dats m 0 c).leavesExact 19 t
    = owns (c : Thread nD τ) (ms0_19 t) fullShare ((dats m 0 c).after 19 t) := by
  unfold Dat.leavesExact; rw [liveAt0_19 t]
theorem leaves0_20 (c : Dev nD) (t : Fin cfg0.N) : (dats m 0 c).leavesExact 20 t
    = owns (c : Thread nD τ) (ms0_20 t) fullShare ((dats m 0 c).after 20 t) := by
  unfold Dat.leavesExact; rw [liveAt0_20 t]
theorem leaves0_21 (c : Dev nD) (t : Fin cfg0.N) : (dats m 0 c).leavesExact 21 t
    = owns (c : Thread nD τ) (ms0_21 t) fullShare ((dats m 0 c).after 21 t) := by
  unfold Dat.leavesExact; rw [liveAt0_21 t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

end Cert.KernelIdeal.Out

end
-- ==== Proof.PointA.lean ====
/- The body's obligation at the first point. -/
module

public import proofs.«01_k».proof.Proof.RunA
public import proofs.«01_k».proof.Proof.Points

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body at the first point. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_15, after0_15, leaves0_16, after0_16, leaves0_17, after0_17, leaves0_18, after0_18, leaves0_19, after0_19, leaves0_20, after0_20, leaves0_21, after0_21, stN_succ]
  have h1 : ¬t.val % 8 = 7 := by omega
  rw [Dat.leavesExact_idle (dats m 0 c) 14 t (idleAt0_14_A t ((hcond0_0 t).mpr h0) (fun h => h1 ((hcond0_1 t).mp h)))
    (noFlush0_14_A t ((hcond0_0 t).mpr h0) (fun h => h1 ((hcond0_1 t).mp h)))]
  have hz : t.val = 0 := by omega
  rw [PhiS_castSucc m c t, PhiS_zero m c _ _ hz, PhiA0_eq, show stN m c t.val = start from by rw [hz]; rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (body_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (ins m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, H9, H10, H11, H12, H13, H14, H15, H16, H17, H18, H19, H20, H21, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Out

end
-- ==== Proof.RunB.lean ====
/- The body of `outproj_both` at a middle point. -/
module

public import proofs.«01_k».proof.Proof.Blocks

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- On whole staging buffers, the inputs' at their blocks, the body at a middle point leaves every output's
    block and the running arrays one step on. -/
theorem body_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S128x512 .f32) (harg13 : arg13.IsWhole) (arg14 : Memref sig .tc .vmem S512x1024 .f32) (harg14 : arg14.IsWhole) (arg15 : Memref sig .tc .vmem S1024x1024 .bf16) (harg15 : arg15.IsWhole) (arg16 : Memref sig .tc .vmem S8x128 .f32) (harg16 : arg16.IsWhole) (arg17 : Memref sig .tc .vmem S512x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S8x128 .f32) (harg22 : arg22.IsWhole) (arg23 : Memref sig .tc .vmem S1024x1024 .f32) (harg23 : arg23.IsWhole)
    (hc0 : ¬cond0_0 i) (hc1 : ¬cond0_1 i) (I : Ins F) (s : St F) (xi : Vec F S1024x1024 .bf16) (E : Set ℕ) (K : PUnit → sProp 𝕄) :
    iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ (∃ d, owns (c : Thread nD τ) arg14 fullShare d) ∗ owns (c : Thread nD τ) arg15 fullShare xi ∗ owns (c : Thread nD τ) arg16 fullShare (s.loss) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (s.nw) ∗ owns (c : Thread nD τ) arg23 fullShare (s.acc)
        ∗ (iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ owns (c : Thread nD τ) arg14 fullShare (dyB I) ∗ owns (c : Thread nD τ) arg15 fullShare xi ∗ owns (c : Thread nD τ) arg16 fullShare ((step I s).loss) ∗ owns (c : Thread nD τ) arg17 fullShare (doB I) ∗ owns (c : Thread nD τ) arg18 fullShare (dzB I) ∗ owns (c : Thread nD τ) arg19 fullShare (doaB I) ∗ owns (c : Thread nD τ) arg20 fullShare (dgB I) ∗ owns (c : Thread nD τ) arg21 fullShare (ddB I) ∗ owns (c : Thread nD τ) arg22 fullShare ((step I s).nw) ∗ owns (c : Thread nD τ) arg23 fullShare ((step I s).acc)) -∗ K ⟨⟩))
      ⊢ wp frame (wpE (defs₀ (F := F)) Variants.none c none) E (cc0_outproj_both i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_outproj_both_eq_skeleton]; unfold cc0_outproj_both_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg15.eq_unread hf14
  obtain rfl := harg16.eq_unread hf15
  obtain rfl := harg22.eq_unread hf21
  obtain rfl := harg23.eq_unread hf22
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H14]
  · iexists _; isplitr; · ipureintro; exact harg15.read_unread _
    iexact H14
  isplitl [H15]
  · iexists _; isplitr; swap; · iexact H15
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H16]
  · iexists _; isplitr; swap; · iexact H16
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, do0, do1, do2, do3]
    exact read_heads _ _ _ _ _ _ (headDoOf I)
  isplitl [H17]
  · iexists _; isplitr; swap; · iexact H17
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, dz0, dz1, dz2, dz3]
    exact read_heads _ _ _ _ _ _ (headDzOf I)
  isplitl [H18]
  · iexists _; isplitr; swap; · iexact H18
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H19]
  · iexists _; isplitr; swap; · iexact H19
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H20]
  · iexists _; isplitr; swap; · iexact H20
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H21]
  · iexists _; isplitr; swap; · iexact H21
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024, ld_head0, ld_head1, ld_head2, ld_head3, dm0, dm1, dm2, nw0, nw1, nw2, nw3]
    rfl
  iexists _; isplitr; swap; · iexact H22
  ipureintro
  refine (read_full _ _ hz2 _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
  rfl

end Cert.KernelIdeal.Out

end
-- ==== Proof.PointB.lean ====
/- The body's obligation at a point that is neither the first nor the last. -/
module

public import proofs.«01_k».proof.Proof.RunB
public import proofs.«01_k».proof.Proof.Points

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body at a point within. -/
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_15, after0_15, leaves0_16, after0_16, leaves0_17, after0_17, leaves0_18, after0_18, leaves0_19, after0_19, leaves0_20, after0_20, leaves0_21, after0_21, stN_succ]
  rw [Dat.leavesExact_idle (dats m 0 c) 14 t (idleAt0_14_B t (fun h => h0 ((hcond0_0 t).mp h)) (fun h => h1 ((hcond0_1 t).mp h)))
    (noFlush0_14_B t (fun h => h0 ((hcond0_0 t).mp h)) (fun h => h1 ((hcond0_1 t).mp h)))]
  have hz : t.val ≠ 0 := by omega
  rw [PhiS_castSucc m c t, PhiS_pos m c _ _ hz]
  simp only [before0_15 m c t hz, before0_21 m c t hz]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (body_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (ins m c t) (stN m c t.val) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [HS0]; · iexact HS0
  iintro ⟨H0, H1, H2, H3, H4, H5, H6, H7, H8, H9, H10, H11, H12, H13, H14, H15, H16, H17, H18, H19, H20, H21, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Out

end
-- ==== Proof.RunC.lean ====
/- The body of `outproj_both` at the last point, which also writes the weight gradient out. -/
module

public import proofs.«01_k».proof.Proof.Blocks

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- On whole staging buffers, the inputs' at their blocks, the body at the last point, which also writes the weight gradient out leaves every output's
    block and the running arrays one step on. -/
theorem body_C (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S128x512 .f32) (harg13 : arg13.IsWhole) (arg14 : Memref sig .tc .vmem S512x1024 .f32) (harg14 : arg14.IsWhole) (arg15 : Memref sig .tc .vmem S1024x1024 .bf16) (harg15 : arg15.IsWhole) (arg16 : Memref sig .tc .vmem S8x128 .f32) (harg16 : arg16.IsWhole) (arg17 : Memref sig .tc .vmem S512x512 .f32) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S8x128 .f32) (harg22 : arg22.IsWhole) (arg23 : Memref sig .tc .vmem S1024x1024 .f32) (harg23 : arg23.IsWhole)
    (hc0 : ¬cond0_0 i) (hc1 : cond0_1 i) (I : Ins F) (s : St F) (E : Set ℕ) (K : PUnit → sProp 𝕄) :
    iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ (∃ d, owns (c : Thread nD τ) arg14 fullShare d) ∗ (∃ d, owns (c : Thread nD τ) arg15 fullShare d) ∗ owns (c : Thread nD τ) arg16 fullShare (s.loss) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (s.nw) ∗ owns (c : Thread nD τ) arg23 fullShare (s.acc)
        ∗ (iprop(owns (c : Thread nD τ) arg1 fullShare (I.x) ∗ owns (c : Thread nD τ) arg2 fullShare (I.ydn) ∗ owns (c : Thread nD τ) arg3 fullShare (I.yatt) ∗ owns (c : Thread nD τ) arg4 fullShare (I.w) ∗ owns (c : Thread nD τ) arg5 fullShare (I.tgt) ∗ owns (c : Thread nD τ) arg6 fullShare (I.wt) ∗ owns (c : Thread nD τ) arg7 fullShare (I.o) ∗ owns (c : Thread nD τ) arg8 fullShare (I.z) ∗ owns (c : Thread nD τ) arg9 fullShare (I.nw) ∗ owns (c : Thread nD τ) arg10 fullShare (I.oa) ∗ owns (c : Thread nD τ) arg11 fullShare (I.ga) ∗ owns (c : Thread nD τ) arg12 fullShare (I.g) ∗ owns (c : Thread nD τ) arg13 fullShare (I.gt) ∗ owns (c : Thread nD τ) arg14 fullShare (dyB I) ∗ owns (c : Thread nD τ) arg15 fullShare (k0_pay12 (step I s).acc) ∗ owns (c : Thread nD τ) arg16 fullShare ((step I s).loss) ∗ owns (c : Thread nD τ) arg17 fullShare (doB I) ∗ owns (c : Thread nD τ) arg18 fullShare (dzB I) ∗ owns (c : Thread nD τ) arg19 fullShare (doaB I) ∗ owns (c : Thread nD τ) arg20 fullShare (dgB I) ∗ owns (c : Thread nD τ) arg21 fullShare (ddB I) ∗ owns (c : Thread nD τ) arg22 fullShare ((step I s).nw) ∗ owns (c : Thread nD τ) arg23 fullShare ((step I s).acc)) -∗ K ⟨⟩))
      ⊢ wp frame (wpE (defs₀ (F := F)) Variants.none c none) E (cc0_outproj_both i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_outproj_both_eq_skeleton]; unfold cc0_outproj_both_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg16.eq_unread hf15
  obtain rfl := harg22.eq_unread hf21
  obtain rfl := harg23.eq_unread hf22
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H14]
  · iexists _; isplitr; swap; · iexact H14
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H15]
  · iexists _; isplitr; swap; · iexact H15
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H16]
  · iexists _; isplitr; swap; · iexact H16
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, do0, do1, do2, do3]
    exact read_heads _ _ _ _ _ _ (headDoOf I)
  isplitl [H17]
  · iexists _; isplitr; swap; · iexact H17
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, ld_head0, ld_head1, ld_head2, ld_head3, dm0, dm1, dm2, dz0, dz1, dz2, dz3]
    exact read_heads _ _ _ _ _ _ (headDzOf I)
  isplitl [H18]
  · iexists _; isplitr; swap; · iexact H18
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H19]
  · iexists _; isplitr; swap; · iexact H19
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H20]
  · iexists _; isplitr; swap; · iexact H20
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
    rfl
  isplitl [H21]
  · iexists _; isplitr; swap; · iexact H21
    ipureintro
    refine (read_full _ _ hz2 _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024, ld_head0, ld_head1, ld_head2, ld_head3, dm0, dm1, dm2, nw0, nw1, nw2, nw3]
    rfl
  iexists _; isplitr; swap; · iexact H22
  ipureintro
  refine (read_full _ _ hz2 _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, ld_512x512, ld_512x1024, ld_1024x1024, ld_1x128, ld_512x128, ld_128x512, ld_8x128, cov_8x128, cov_1024x1024]
  rfl

end Cert.KernelIdeal.Out

end
-- ==== Proof.PointC.lean ====
/- The body's obligation at the last point. -/
module

public import proofs.«01_k».proof.Proof.RunC
public import proofs.«01_k».proof.Proof.Points

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body at the last point. -/
theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_15, after0_15, leaves0_16, after0_16, leaves0_17, after0_17, leaves0_18, after0_18, leaves0_19, after0_19, leaves0_20, after0_20, leaves0_21, after0_21, stN_succ]
  rw [show (dats m 0 c).leavesExact 14 t = owns (c : Thread nD τ) (ms0_14 t) fullShare ((dats m 0 c).after 14 t) from by
    unfold Dat.leavesExact; rw [liveAt0_14_C t (fun h => h0 ((hcond0_0 t).mp h)) ((hcond0_1 t).mpr h1)], after0_14, stN_succ]
  have hz : t.val ≠ 0 := by omega
  rw [PhiS_castSucc m c t, PhiS_pos m c _ _ hz]
  simp only [before0_15 m c t hz, before0_21 m c t hz]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (body_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (ins m c t) (stN m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [HS0]; · iexact HS0
  iintro ⟨H0, H1, H2, H3, H4, H5, H6, H7, H8, H9, H10, H11, H12, H13, H14, H15, H16, H17, H18, H19, H20, H21, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Out

end
-- ==== Proof.Launch.lean ====
/- The launch of `outproj_both`: the body's obligation from the three cases of a point, and the run. The set-up follows the
   library's launches. -/
module

public import proofs.«01_k».proof.Proof.PointA
public import proofs.«01_k».proof.Proof.PointB
public import proofs.«01_k».proof.Proof.PointC

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the first, one within, or the last. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 = 7
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Out

end
-- ==== Proof.Kept.lean ====
/- At the end of the kernel's run every argument is as launched. -/
module

public import proofs.«01_k».proof.Proof.Launch
public import Idealize.ShloMosaic.Lib.Pipeline.ValueKit

@[expose] public section

set_option maxRecDepth 16384

noncomputable section

namespace Cert.KernelIdeal.Out

open Idealize.ShloMosaic Idealize.ShloMosaic.TcCoe Idealize.SL.Sem Cert.KernelIdeal Cert.KernelIdeal.Gen

variable {F : FTy → Type} [FloatOps F]

variable (m : (ℓ : Loc nD τ sig) → Buf (Elt F) ℓ) (ρ : Dev nD → PrngReg)

/-- The arguments after the run: six are inputs of the pipeline, which leaves them; the host alone reads the weight. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.in_eq c 0 rfl).trans ((A_eq m c 0).trans (V_main_arg0 m c)),
    (h.in_eq c 6 rfl).trans ((A_eq m c 6).trans (V_main_arg1 m c)),
    (h.in_eq c 7 rfl).trans ((A_eq m c 7).trans (V_main_arg2 m c)),
    (h.in_eq c 8 rfl).trans ((A_eq m c 8).trans (V_main_arg3 m c)),
    (h.in_eq c 9 rfl).trans ((A_eq m c 9).trans (V_main_arg4 m c)),
    (h.in_eq c 10 rfl).trans ((A_eq m c 10).trans (V_main_arg5 m c)),
    (h.rest_eq c main_arg6 (Pipeline.mem_restRefs_of main_arg6 (by decide) (by decide))).trans (V_main_arg6 m c),
    (h.in_eq c 4 rfl).trans ((A_eq m c 4).trans (V_main_arg7 m c))⟩

/-- THE FRAME, over any values: every weakly fair execution terminates, the arguments kept and every counter at zero. -/
theorem run_kept : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0 :=
  (θ_run defs _ _).mono (fun _ h => ⟨fun c => args_kept m h.1 c, h.2⟩) (run_main_quiescent m ρ)

end Cert.KernelIdeal.Out

end
-- ==== Proof.RealMath.lean ====
/- Scalar and finite-sum facts over the extended reals: which expressions stay real, and the identities of a normed,
   gated head that hold where they do. -/
module

public import Idealize.ShloMosaic.Lib.IdealHost
public import Idealize.ShloMosaic.Lib.Pointwise
public import Mathlib.Tactic.Ring
public import Mathlib.Tactic.FieldSimp
public import Mathlib.Tactic.Positivity

@[expose] public section

noncomputable section

namespace Cert.RealMath

open Idealize.ShloMosaic
open scoped BigOperators

/-! ## Real values -/

/-- An extended real that is a real. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.sub_self {x : EReal} (hx : IsR x) : x - x = 0 := by
  obtain ⟨a, rfl⟩ := hx; rw [← EReal.coe_sub, _root_.sub_self, EReal.coe_zero]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

theorem IsR.div_coe {x : EReal} (hx : IsR x) {y : ℝ} (hy : y ≠ 0) : IsR (Ideal.div x (y : EReal)) := by
  rw [Ideal.div_coe hy]; exact hx.mul (isR_coe _)

/-! ## The constants -/

theorem c128 : Ideal.ofBits .f32 1124073472#32 = ((128 : ℝ) : EReal) := by
  simp [Ideal.ofBits, Ideal.ieee, -EReal.coe_mul]; norm_num
theorem c1024 : Ideal.ofBits .f32 1149239296#32 = ((1024 : ℝ) : EReal) := by
  simp [Ideal.ofBits, Ideal.ieee, -EReal.coe_mul]; norm_num
theorem cHalf : Ideal.ofBits .f32 1056964608#32 = ((1 / 2 : ℝ) : EReal) := by
  simp [Ideal.ofBits, Ideal.ieee, -EReal.coe_mul]; norm_num
theorem cTwo : Ideal.ofBits .f32 1073741824#32 = ((2 : ℝ) : EReal) := by
  simp [Ideal.ofBits, Ideal.ieee, -EReal.coe_mul]; norm_num
theorem cNegHalf : Ideal.ofBits .f32 3204448256#32 = ((-(1 / 2) : ℝ) : EReal) := by
  simp [Ideal.ofBits, Ideal.ieee, -EReal.coe_mul, -EReal.coe_neg]; norm_num
theorem cInv1024 : Ideal.ofBits .f32 981467136#32 = ((1 / 1024 : ℝ) : EReal) := by
  simp [Ideal.ofBits, Ideal.ieee, -EReal.coe_mul]; norm_num
theorem cHalfInv1024 : Ideal.ofBits .f32 973078528#32 = ((1 / 2048 : ℝ) : EReal) := by
  simp [Ideal.ofBits, Ideal.ieee, -EReal.coe_mul]; norm_num
/-- The norm's epsilon is a positive real. -/
theorem cEps : ∃ e : ℝ, 0 < e ∧ Ideal.ofBits .f32 897988541#32 = (e : EReal) := by
  refine ⟨_, ?_, by simp [Ideal.ofBits, Ideal.ieee, -EReal.coe_mul]; rfl⟩
  norm_num

/-! ## The logistic function -/

/-- `1 / (1 + exp (−z))`. -/
def sg (z : EReal) : EReal := Ideal.div 1 (1 + Ideal.exp (-z))

theorem isR_sg {z : EReal} (hz : IsR z) : IsR (sg z) := by
  obtain ⟨a, rfl⟩ := hz
  have h : (1 : ℝ) + Real.exp (-a) ≠ 0 := by positivity
  unfold sg
  rw [← EReal.coe_neg, Ideal.exp_coe, ← EReal.coe_one, ← EReal.coe_add, Ideal.div_coe h]
  exact (isR_coe _).mul (isR_coe _)

/-- The two ways of writing the derivative of `a ↦ a · sg a`, times a gradient `y`. -/
theorem gate_eq {y s a : EReal} (hy : IsR y) (hs : IsR s) (ha : IsR a) :
    y * (s * (1 + a * (1 - s))) = y * s + a * y * (s * (1 - s)) := by
  obtain ⟨y, rfl⟩ := hy; obtain ⟨s, rfl⟩ := hs; obtain ⟨a, rfl⟩ := ha
  rw [← EReal.coe_one]
  norm_cast
  ring

/-! ## A normed head -/

/-- The mean square of a head's lanes, and epsilon. -/
def ms (o : Fin 128 → EReal) : EReal :=
  Ideal.div (∑ l, o l * o l) (Ideal.ofBits .f32 1124073472#32) + Ideal.ofBits .f32 897988541#32

theorem ms_pos {o : Fin 128 → EReal} (ho : ∀ l, IsR (o l)) : ∃ v : ℝ, 0 < v ∧ ms o = (v : EReal) := by
  choose f hf using ho
  obtain ⟨e, he, hc⟩ := cEps
  refine ⟨(∑ l, f l * f l) * (1 / 128) + e, ?_, ?_⟩
  · have : 0 ≤ ∑ l, f l * f l := Finset.sum_nonneg fun l _ => mul_self_nonneg _
    positivity
  · unfold ms
    rw [c128, hc, Ideal.div_coe (by norm_num), EReal.coe_add, EReal.coe_mul, coe_sum]
    simp only [hf, EReal.coe_mul]

theorem isR_rsqrt_ms {o : Fin 128 → EReal} (ho : ∀ l, IsR (o l)) : IsR (Ideal.rsqrt (ms o)) := by
  obtain ⟨v, hv, h⟩ := ms_pos ho
  rw [h, Ideal.rsqrt_coe, if_neg (not_lt.2 hv.le), if_neg hv.ne']
  exact isR_coe _

/-- The gradient of a normed head: the kernel's projection off the normed head against the gradient of the mean
    square, taken twice. -/
theorem head_eq {o g : Fin 128 → EReal} (ho : ∀ l, IsR (o l)) (hg : ∀ l, IsR (g l)) (j : Fin 128) :
    Ideal.rsqrt (ms o) * (g j - o j * Ideal.rsqrt (ms o) *
        Ideal.div (∑ x, g x * (o x * Ideal.rsqrt (ms o))) (Ideal.ofBits .f32 1124073472#32))
      = g j * Ideal.rsqrt (ms o)
        + o j * Ideal.div ((∑ x, o x * g x) * (Ideal.ofBits .f32 3204448256#32 * Ideal.div (Ideal.rsqrt (ms o)) (ms o)))
            (Ideal.ofBits .f32 1124073472#32)
        + Ideal.div ((∑ x, o x * g x) * (Ideal.ofBits .f32 3204448256#32 * Ideal.div (Ideal.rsqrt (ms o)) (ms o)))
            (Ideal.ofBits .f32 1124073472#32) * o j := by
  obtain ⟨v, hv, hm⟩ := ms_pos ho
  choose a ha using ho
  choose b hb using hg
  have h128 : (128 : ℝ) ≠ 0 := by norm_num
  have hs : Real.sqrt v ≠ 0 := (Real.sqrt_pos.2 hv).ne'
  have hsq : v = Real.sqrt v * Real.sqrt v := (Real.mul_self_sqrt hv.le).symm
  rw [hm, Ideal.rsqrt_coe, if_neg (not_lt.2 hv.le), if_neg hv.ne', c128, cNegHalf]
  simp only [ha, hb, Ideal.div_coe h128, Ideal.div_coe hv.ne']
  simp only [← EReal.coe_mul, ← coe_sum, ← EReal.coe_sub, ← EReal.coe_add]
  congr 1
  have h1 : (∑ x, b x * (a x * (Real.sqrt v)⁻¹)) = (∑ x, a x * b x) * (Real.sqrt v)⁻¹ := by
    rw [Finset.sum_mul]; exact Finset.sum_congr rfl fun x _ => by ring
  rw [h1]
  generalize (∑ x, a x * b x) = S
  have h2 : 1 / v = (Real.sqrt v)⁻¹ * (Real.sqrt v)⁻¹ := by
    rw [← mul_inv, ← hsq, one_div]
  rw [h2]
  ring

end Cert.RealMath

end
-- ==== Proof.Layers.lean ====
/- The reference's values layer by layer: the arrays its run composes, each named, and each read at an index as an
   expression over the extended reals. The host's preparation of the kernel's arguments is made of the same arrays. -/
module

public import proofs.«01_k».proof.Proof.Gen.ReferenceIdeal
public import proofs.«01_k».proof.Proof.RealMath
public import Idealize.ShloMosaic.Lib.Pointwise
public import Idealize.ShloMosaic.Lib.IdealHost

@[expose] public section

set_option maxRecDepth 16384

noncomputable section

namespace Cert.Layers

open Idealize.ShloMosaic Idealize.ShloMosaic.TcCoe Cert.ReferenceIdeal Cert.ReferenceIdeal.Gen Cert.RealMath
open scoped BigOperators

/-- The eight arguments. -/
structure Arrs where
  x : FVec Ideal S4096x1024 .f32
  o : FVec Ideal S4096x512 .f32
  z : FVec Ideal S4096x512 .f32
  nw : FVec Ideal S1x128 .f32
  oa : FVec Ideal S4096x512 .f32
  ga : FVec Ideal S4096x512 .f32
  w : FVec Ideal S1024x1024 .f32
  tgt : FVec Ideal S4096x1024 .f32

variable (A : Arrs)

/-! ## The arrays -/

/-- DeltaNet's output with its heads apart. -/
def tR : FVec Ideal S4096x4x128 .f32 := shapeCast _ A.o shapeCasts_S4096x512_S4096x4x128
/-- Each head's mean square, and the norm's epsilon. -/
def tV : FVec Ideal S4096x4x1 .f32 := addf (Host.divf (broadcastInDim S4096x4x1 ![0, 1] bcast_S4096x4_S4096x4x1_0_1 (Host.reduceAdd (mulf (tR A) (tR A)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32))
def tRs : FVec Ideal S4096x4x1 .f32 := Host.rsqrt (tV A)
def tRsB : FVec Ideal S4096x4x128 .f32 := broadcastInDim S4096x4x128 ![0, 1, 2] bcast_S4096x4x1_S4096x4x128_0_1_2 (tRs A)
/-- The norm's weight at every row and head. -/
def tW : FVec Ideal S4096x4x128 .f32 := broadcastInDim S4096x4x128 ![0, 1, 2] bcast_S1x1x128_S4096x4x128_0_1_2 (broadcastInDim S1x1x128 ![1, 2] bcast_S1x128_S1x1x128_1_2 A.nw)
def tXh : FVec Ideal S4096x4x128 .f32 := mulf (tR A) (tRsB A)
/-- The norm's output. -/
def tOn : FVec Ideal S4096x512 .f32 := shapeCast _ (mulf (tXh A) (tW A)) shapeCasts_S4096x4x128_S4096x512
/-- The logistic function, as the host computes it. -/
def tSg (z : FVec Ideal S4096x512 .f32) : FVec Ideal S4096x512 .f32 := Host.divf (broadcastInDim S4096x512 ![] bcast_S_S4096x512 (constant S_ .f32 0x3F800000#32)) (addf (broadcastInDim S4096x512 ![] bcast_S_S4096x512 (constant S_ .f32 0x3F800000#32)) (Host.exp (Host.negf z)))
def tSilu (z : FVec Ideal S4096x512 .f32) : FVec Ideal S4096x512 .f32 := mulf z (tSg z)
def tDn : FVec Ideal S4096x512 .f32 := mulf (tOn A) (tSilu A.z)
def tAtt : FVec Ideal S4096x512 .f32 := mulf A.oa (tSilu A.ga)
/-- The two gated branches side by side. -/
def tMix : FVec Ideal S4096x1024 .f32 := concatenate S4096x1024 1 [⟨S4096x512, tDn A⟩, ⟨S4096x512, tAtt A⟩] concatenates_S4096x512_S4096x512_S4096x1024_d1
def tErr : FVec Ideal S4096x1024 .f32 := subf (addf A.x (Host.dotGeneral dot_S4096x1024_S1024x1024_S4096x1024_1_0_0_1_n_n none (tMix A) A.w)) A.tgt
def tDy : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (tErr A))
def tDw : FVec Ideal S1024x1024 .bf16 := truncf .bf16 (transpose S1024x1024 [1, 0] (Host.dotGeneral dot_S4096x1024_S4096x1024_S1024x1024_0_0_1_1_n_n none (tDy A) (tMix A)) transposes_S1024x1024_S1024x1024_1_0) bitsLt_bf16_f32
def tLoss : FVec Ideal S8x128 .f32 := broadcastInDim S8x128 ![] bcast_S_S8x128 (mulf (constant S_ .f32 0x3F000000#32) (Host.reduceAdd (Host.divf (Host.reduceAdd (mulf (tErr A) (tErr A)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))
def tDmix : FVec Ideal S4096x1024 .f32 := Host.dotGeneral dot_S4096x1024_S1024x1024_S4096x1024_1_1_0_0_n_n none (tDy A) A.w
def tDm1 : FVec Ideal S4096x512 .f32 := extractStridedSlice S4096x512 ![0, 0] (tDmix A) slices_S4096x1024_S4096x512_0_0
def tDm2 : FVec Ideal S4096x512 .f32 := extractStridedSlice S4096x512 ![0, 512] (tDmix A) slices_S4096x1024_S4096x512_0_512
/-- The gradient of the norm's output, heads apart; then times the norm's weight. -/
def tD : FVec Ideal S4096x4x128 .f32 := shapeCast _ (mulf (tDm1 A) (tSilu A.z)) shapeCasts_S4096x512_S4096x4x128
def tG : FVec Ideal S4096x4x128 .f32 := mulf (tD A) (tW A)
/-- The gradient of each head's mean square, per lane. -/
def tQ : FVec Ideal S4096x4 .f32 := Host.reduceAdd (Host.divf (mulf (shapeCast _ (Host.reduceAdd (mulf (tR A) (tG A)) (constant S_ .f32 0x00000000#32) reducesTo_S4096x4x128_S4096x4_d2 h_S_) shapeCasts_S4096x4_S4096x4x1) (mulf (broadcastInDim S4096x4x1 ![] bcast_S_S4096x4x1 (constant S_ .f32 0xBF000000#32)) (Host.divf (tRs A) (tV A)))) (broadcastInDim S4096x4x1 ![] bcast_S_S4096x4x1 (constant S_ .f32 0x43000000#32))) (constant S_ .f32 0x00000000#32) reducesTo_S4096x4x1_S4096x4_d2 h_S_
def tQB : FVec Ideal S4096x4x128 .f32 := broadcastInDim S4096x4x128 ![0, 1] bcast_S4096x4_S4096x4x128_0_1 (tQ A)
def tDo : FVec Ideal S4096x512 .f32 := shapeCast _ (addf (addf (mulf (tG A) (tRsB A)) (mulf (tR A) (tQB A))) (mulf (tQB A) (tR A))) shapeCasts_S4096x4x128_S4096x512
/-- The gradient of `a ↦ b · silu a` from the gradient of its value, as the host computes it. -/
def tGate (b d a : FVec Ideal S4096x512 .f32) : FVec Ideal S4096x512 .bf16 := truncf .bf16 (addf (mulf (mulf b d) (tSg a)) (mulf (mulf a (mulf b d)) (mulf (tSg a) (subf (broadcastInDim S4096x512 ![] bcast_S_S4096x512 (constant S_ .f32 0x3F800000#32)) (tSg a))))) bitsLt_bf16_f32
def tDz : FVec Ideal S4096x512 .bf16 := tGate (tOn A) (tDm1 A) A.z
def tDg : FVec Ideal S4096x512 .bf16 := tGate A.oa (tDm2 A) A.ga
def tDoa : FVec Ideal S4096x512 .f32 := mulf (tDm2 A) (tSilu A.ga)
def tDd : FVec Ideal S4096x512 .f32 := shapeCast _ (broadcastInDim S4096x8x64 ![0, 1] bcast_S4096x8_S4096x8x64_0_1 (Host.reduceAdd (shapeCast _ (mulf (tDoa A) A.oa) shapeCasts_S4096x512_S4096x8x64) (constant S_ .f32 0x00000000#32) reducesTo_S4096x8x64_S4096x8_d2 h_S_)) shapeCasts_S4096x8x64_S4096x512
def tDnw : FVec Ideal S8x128 .f32 := broadcastInDim S8x128 ![0, 1] bcast_S1x128_S8x128_0_1 (broadcastInDim S1x128 ![1] bcast_S128_S1x128_1 (Host.reduceAdd (shapeCast _ (Host.reduceAdd (mulf (tXh A) (tD A)) (constant S_ .f32 0x00000000#32) reducesTo_S4096x4x128_S128_d0_1 h_S_) shapeCasts_S128_S1x1x128) (constant S_ .f32 0x00000000#32) reducesTo_S1x1x128_S128_d0_1 h_S_))

/-! ## The same at an index -/

/-- Lane `l` of head `k`. -/
abbrev col (k : Fin 4) (l : Fin 128) : Fin 512 := ⟨k.val * 128 + l.val, by omega⟩
/-- The same lane in the model's width. -/
abbrev wcol (k : Fin 4) (l : Fin 128) : Fin 1024 := ⟨k.val * 128 + l.val, by omega⟩

/-- A head's lanes in a row of DeltaNet's output. -/
abbrev lanes (r : Fin 4096) (k : Fin 4) : Fin 128 → EReal := fun l => A.o (ix2 r (col k l))

theorem split_head (k : Fin 4) (l : Fin 128) (h : (k.val * 128 + l.val) / 128 < 4) :
    (⟨(k.val * 128 + l.val) / 128, h⟩ : Fin 4) = k := Fin.ext (by show (k.val * 128 + l.val) / 128 = k.val; omega)
theorem split_lane (k : Fin 4) (l : Fin 128) (h : (k.val * 128 + l.val) % 128 < 128) :
    (⟨(k.val * 128 + l.val) % 128, h⟩ : Fin 128) = l := Fin.ext (by show (k.val * 128 + l.val) % 128 = l.val; omega)
/-- Every lane is some head's. -/
theorem exists_col (j : Fin 512) : ∃ k l, j = col k l :=
  ⟨⟨j.val / 128, by omega⟩, ⟨j.val % 128, by omega⟩, Fin.ext (by show j.val = j.val / 128 * 128 + j.val % 128; omega)⟩

theorem tR_apply (r : Fin 4096) (k : Fin 4) (l : Fin 128) : tR A (ix3 r k l) = A.o (ix2 r (col k l)) := by
  pointwise [tR]

theorem tV_apply (r : Fin 4096) (k : Fin 4) (u : Fin 1) : tV A (ix3 r k u) = ms (lanes A r k) := by
  pointwise [tV, tR_apply]
  rfl
theorem tRs_apply (r : Fin 4096) (k : Fin 4) (u : Fin 1) : tRs A (ix3 r k u) = Ideal.rsqrt (ms (lanes A r k)) := by
  rw [← tV_apply A r k u]
  pointwise [tRs]
theorem tRsB_apply (r : Fin 4096) (k : Fin 4) (l : Fin 128) : tRsB A (ix3 r k l) = Ideal.rsqrt (ms (lanes A r k)) := by
  rw [← tRs_apply A r k 0]
  pointwise [tRsB]
theorem tXh_apply (r : Fin 4096) (k : Fin 4) (l : Fin 128) :
    tXh A (ix3 r k l) = lanes A r k l * Ideal.rsqrt (ms (lanes A r k)) := by
  pointwise [tXh, tRsB_apply, tR_apply]
theorem tW_apply (r : Fin 4096) (k : Fin 4) (l : Fin 128) : tW A (ix3 r k l) = A.nw (ix2 0 l) := by
  pointwise [tW]
theorem tSg_apply (z : FVec Ideal S4096x512 .f32) (r : Fin 4096) (j : Fin 512) : tSg z (ix2 r j) = sg (z (ix2 r j)) := by
  pointwise [tSg, sg]
theorem tSilu_apply (z : FVec Ideal S4096x512 .f32) (r : Fin 4096) (j : Fin 512) :
    tSilu z (ix2 r j) = z (ix2 r j) * sg (z (ix2 r j)) := by
  pointwise [tSilu, tSg_apply]
theorem tOn_apply (r : Fin 4096) (k : Fin 4) (l : Fin 128) :
    tOn A (ix2 r (col k l)) = tXh A (ix3 r k l) * A.nw (ix2 0 l) := by
  pointwise [tOn, tW_apply]
  rw [split_head, split_lane]
theorem tDn_apply (r : Fin 4096) (j : Fin 512) :
    tDn A (ix2 r j) = tOn A (ix2 r j) * (A.z (ix2 r j) * sg (A.z (ix2 r j))) := by
  pointwise [tDn, tSilu_apply]
theorem tAtt_apply (r : Fin 4096) (j : Fin 512) :
    tAtt A (ix2 r j) = A.oa (ix2 r j) * (A.ga (ix2 r j) * sg (A.ga (ix2 r j))) := by
  pointwise [tAtt, tSilu_apply]
theorem tMix_apply (r : Fin 4096) (j : Fin 1024) : tMix A (ix2 r j)
    = if h : j.val < 512 then tDn A (ix2 r ⟨j.val, h⟩) else tAtt A (ix2 r ⟨j.val - 512, by omega⟩) := by
  pointwise [tMix]
theorem tErr_apply (r : Fin 4096) (j : Fin 1024) :
    tErr A (ix2 r j) = A.x (ix2 r j) + ∑ x, tMix A (ix2 r x) * A.w (ix2 x j) - A.tgt (ix2 r j) := by
  pointwise [tErr]
theorem tDy_apply (r : Fin 4096) (j : Fin 1024) :
    tDy A (ix2 r j) = tErr A (ix2 r j) * Ideal.ofBits .f32 981467136#32 := by
  pointwise [tDy]
  rw [cHalf, c1024, cTwo, cInv1024, Ideal.div_coe (by norm_num), ← mul_assoc, ← EReal.coe_mul, ← EReal.coe_mul,
    mul_comm]
  norm_num
theorem tDw_apply (i j : Fin 1024) : tDw A (ix2 i j) = ∑ x, tDy A (ix2 x j) * tMix A (ix2 x i) := by
  pointwise [tDw]
theorem tLoss_apply (r : Fin 8) (j : Fin 128) : tLoss A (ix2 r j) = Ideal.ofBits .f32 1056964608#32 *
    ∑ x, Ideal.div (∑ y, tErr A (ix2 x y) * tErr A (ix2 x y)) (Ideal.ofBits .f32 1149239296#32) := by
  pointwise [tLoss]
theorem tDmix_apply (r : Fin 4096) (j : Fin 1024) : tDmix A (ix2 r j) = ∑ x, tDy A (ix2 r x) * A.w (ix2 j x) := by
  pointwise [tDmix]
theorem tDm1_apply (r : Fin 4096) (k : Fin 4) (l : Fin 128) : tDm1 A (ix2 r (col k l)) = tDmix A (ix2 r (wcol k l)) := by
  pointwise [tDm1]
theorem tDm2_apply (r : Fin 4096) (j : Fin 512) : tDm2 A (ix2 r j) = tDmix A (ix2 r ⟨512 + j.val, by omega⟩) := by
  pointwise [tDm2]
theorem tD_apply (r : Fin 4096) (k : Fin 4) (l : Fin 128) : tD A (ix3 r k l)
    = tDmix A (ix2 r (wcol k l)) * (A.z (ix2 r (col k l)) * sg (A.z (ix2 r (col k l)))) := by
  pointwise [tD, tSilu_apply, tDm1]
theorem tG_apply (r : Fin 4096) (k : Fin 4) (l : Fin 128) : tG A (ix3 r k l) = tD A (ix3 r k l) * A.nw (ix2 0 l) := by
  pointwise [tG, tW_apply]
theorem tQ_apply (r : Fin 4096) (k : Fin 4) : tQ A (ix2 r k)
    = Ideal.div ((∑ x, lanes A r k x * tG A (ix3 r k x)) * (Ideal.ofBits .f32 3204448256#32
        * Ideal.div (Ideal.rsqrt (ms (lanes A r k))) (ms (lanes A r k)))) (Ideal.ofBits .f32 1124073472#32) := by
  pointwise [tQ, tR_apply, tRs_apply, tV_apply]
  rw [Fin.sum_univ_one]
theorem tDo_apply (r : Fin 4096) (k : Fin 4) (l : Fin 128) : tDo A (ix2 r (col k l))
    = tG A (ix3 r k l) * Ideal.rsqrt (ms (lanes A r k)) + lanes A r k l * tQ A (ix2 r k) + tQ A (ix2 r k) * lanes A r k l := by
  pointwise [tDo, tQB, tR_apply, tRsB_apply]
  rw [split_head, split_lane]
theorem tGate_apply (b d a) (r : Fin 4096) (j : Fin 512) : tGate b d a (ix2 r j)
    = b (ix2 r j) * d (ix2 r j) * sg (a (ix2 r j))
      + a (ix2 r j) * (b (ix2 r j) * d (ix2 r j)) * (sg (a (ix2 r j)) * (1 - sg (a (ix2 r j)))) := by
  pointwise [tGate, tSg_apply]
theorem tDoa_apply (r : Fin 4096) (j : Fin 512) :
    tDoa A (ix2 r j) = tDm2 A (ix2 r j) * (A.ga (ix2 r j) * sg (A.ga (ix2 r j))) := by
  pointwise [tDoa, tSilu_apply]
theorem tDd_apply (r : Fin 4096) (j : Fin 512) : tDd A (ix2 r j)
    = ∑ x : Fin 64, tDoa A (ix2 r ⟨j.val / 64 * 64 + x.val, by omega⟩) * A.oa (ix2 r ⟨j.val / 64 * 64 + x.val, by omega⟩) := by
  pointwise [tDd]

/-- A host sum over the first two of three axes. -/
theorem hostReduceAdd_first_two {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ r : Fin n0, ∑ k : Fin n1, v (ix3 r k j) := by
  have hd : ∀ i : (⟨3, ![n0, n1, n2]⟩ : Shape).Idx, (h.drop i (0 : Fin 1)).val = (i 2).val := fun i => rfl
  unfold Ideal.hostReduceAdd
  congr 1
  rw [← Fintype.sum_prod_type']
  refine Finset.sum_bij' (fun i _ => ((i 0, i 1) : Fin n0 × Fin n1)) (fun p _ => ix3 p.1 p.2 j) (fun _ _ => Finset.mem_univ _)
    (fun p _ => ?_) (fun i hi => ?_) (fun p _ => rfl) (fun i hi => ?_)
  · refine Finset.mem_filter.2 ⟨Finset.mem_univ _, ?_⟩
    funext b
    match b with
    | ⟨0, _⟩ => exact Fin.ext (hd (ix3 p.1 p.2 j))
  all_goals
    have hj : (i 2).val = j.val := (hd i).symm.trans (congrArg Fin.val (congrFun (Finset.mem_filter.1 hi).2 (0 : Fin 1)))
    have e : ix3 (i 0) (i 1) j = i := by
      funext a
      match a with
      | ⟨0, _⟩ => rfl
      | ⟨1, _⟩ => rfl
      | ⟨2, _⟩ => exact Fin.ext hj.symm
  · exact e
  · exact congrArg v e.symm

theorem tDnw_apply (i : Fin 8) (j : Fin 128) :
    tDnw A (ix2 i j) = ∑ r, ∑ k, tXh A (ix3 r k j) * tD A (ix3 r k j) := by
  pointwise [tDnw, hostReduceAdd_first_two]
  rw [Fin.sum_univ_one, Fin.sum_univ_one]

end Cert.Layers

end
-- ==== Proof.Finite.lean ====
/- Where the arguments are real, so is every layer of the reference; and the reference's gradients of a normed head and of
   a gate in the kernel's form. -/
module

public import proofs.«01_k».proof.Proof.Layers

@[expose] public section

set_option maxRecDepth 16384

noncomputable section

namespace Cert.Layers

open Idealize.ShloMosaic Idealize.ShloMosaic.TcCoe Cert.ReferenceIdeal Cert.ReferenceIdeal.Gen Cert.RealMath
open scoped BigOperators

/-- Every element of every argument is real. -/
structure Arrs.Real (A : Arrs) : Prop where
  x : ∀ i, IsR (A.x i)
  o : ∀ i, IsR (A.o i)
  z : ∀ i, IsR (A.z i)
  nw : ∀ i, IsR (A.nw i)
  oa : ∀ i, IsR (A.oa i)
  ga : ∀ i, IsR (A.ga i)
  w : ∀ i, IsR (A.w i)
  tgt : ∀ i, IsR (A.tgt i)

theorem isR_silu {z : EReal} (h : IsR z) : IsR (z * sg z) := h.mul (isR_sg h)

variable {A : Arrs} (H : A.Real)
include H

theorem isR_lanes (r : Fin 4096) (k : Fin 4) (l : Fin 128) : IsR (lanes A r k l) := H.o _
theorem isR_tXh (r : Fin 4096) (k : Fin 4) (l : Fin 128) : IsR (tXh A (ix3 r k l)) := by
  rw [tXh_apply]; exact (H.o _).mul (isR_rsqrt_ms (isR_lanes H r k))
theorem isR_tOn (r : Fin 4096) (j : Fin 512) : IsR (tOn A (ix2 r j)) := by
  obtain ⟨k, l, rfl⟩ := exists_col j
  rw [tOn_apply]; exact (isR_tXh H r k l).mul (H.nw _)
theorem isR_tMix (r : Fin 4096) (j : Fin 1024) : IsR (tMix A (ix2 r j)) := by
  rw [tMix_apply]
  split
  · rw [tDn_apply]; exact (isR_tOn H _ _).mul (isR_silu (H.z _))
  · rw [tAtt_apply]; exact (H.oa _).mul (isR_silu (H.ga _))
theorem isR_tErr (r : Fin 4096) (j : Fin 1024) : IsR (tErr A (ix2 r j)) := by
  rw [tErr_apply]
  exact ((H.x _).add (isR_sum _ _ fun i => (isR_tMix H r i).mul (H.w _))).sub (H.tgt _)
theorem isR_tDy (r : Fin 4096) (j : Fin 1024) : IsR (tDy A (ix2 r j)) := by
  rw [tDy_apply, cInv1024]; exact (isR_tErr H r j).mul (isR_coe _)
theorem isR_tDmix (r : Fin 4096) (j : Fin 1024) : IsR (tDmix A (ix2 r j)) := by
  rw [tDmix_apply]; exact isR_sum _ _ fun i => (isR_tDy H r i).mul (H.w _)
theorem isR_tD (r : Fin 4096) (k : Fin 4) (l : Fin 128) : IsR (tD A (ix3 r k l)) := by
  rw [tD_apply]; exact (isR_tDmix H _ _).mul (isR_silu (H.z _))
theorem isR_tG (r : Fin 4096) (k : Fin 4) (l : Fin 128) : IsR (tG A (ix3 r k l)) := by
  rw [tG_apply]; exact (isR_tD H r k l).mul (H.nw _)
theorem isR_tDoa (r : Fin 4096) (j : Fin 512) : IsR (tDoa A (ix2 r j)) := by
  rw [tDoa_apply, tDm2_apply]; exact (isR_tDmix H _ _).mul (isR_silu (H.ga _))

/-- The DeltaNet output's gradient as a projection off the normed head. -/
theorem tDo_proj (r : Fin 4096) (k : Fin 4) (l : Fin 128) : tDo A (ix2 r (col k l))
    = Ideal.rsqrt (ms (lanes A r k)) * (tG A (ix3 r k l) - lanes A r k l * Ideal.rsqrt (ms (lanes A r k))
        * Ideal.div (∑ x, tG A (ix3 r k x) * (lanes A r k x * Ideal.rsqrt (ms (lanes A r k))))
            (Ideal.ofBits .f32 1124073472#32)) := by
  rw [head_eq (isR_lanes H r k) (isR_tG H r k) l, tDo_apply, tQ_apply]

omit H in
/-- A gate's gradient with the logistic factor taken out. -/
theorem tGate_factor {b d a : FVec Ideal S4096x512 .f32} (r : Fin 4096) (j : Fin 512) (hb : IsR (b (ix2 r j)))
    (hd : IsR (d (ix2 r j))) (ha : IsR (a (ix2 r j))) : tGate b d a (ix2 r j)
    = d (ix2 r j) * b (ix2 r j) * (sg (a (ix2 r j)) * (1 + a (ix2 r j) * (1 - sg (a (ix2 r j))))) := by
  rw [tGate_apply, mul_comm (d (ix2 r j)), gate_eq (hb.mul hd) (isR_sg ha) ha]

end Cert.Layers

end
-- ==== Proof.Sums.lean ====
/- The sums the kernel cuts in grid points, and its grouping of lanes by two products with a matrix of zeros and ones. -/
module

public import proofs.«01_k».proof.Proof.RealMath

@[expose] public section

noncomputable section

namespace Cert.RealMath

open Idealize.ShloMosaic
open scoped BigOperators

/-- Row `r` of grid point `t`'s block. -/
abbrev row (t : Fin 8) (r : Fin 512) : Fin 4096 := ⟨t.val * 512 + r.val, by omega⟩

theorem sum_rows {M : Type} [AddCommMonoid M] (f : Fin 4096 → M) : ∑ x, f x = ∑ t : Fin 8, ∑ r : Fin 512, f (row t r) :=
  Fin.sum_univ_tiles 8 512 rfl f

/-- Half the sum of the rows' mean squares, as the points add it up. -/
theorem loss_eq {e : Fin 4096 → Fin 1024 → EReal} (he : ∀ r j, IsR (e r j)) :
    ∑ t : Fin 8, (∑ r : Fin 512, ∑ j, e (row t r) j * e (row t r) j) * Ideal.ofBits .f32 973078528#32
      = Ideal.ofBits .f32 1056964608#32 * ∑ x, Ideal.div (∑ j, e x j * e x j) (Ideal.ofBits .f32 1149239296#32) := by
  choose f hf using he
  have h1024 : (1024 : ℝ) ≠ 0 := by norm_num
  rw [sum_rows (fun x => Ideal.div (∑ j, e x j * e x j) (Ideal.ofBits .f32 1149239296#32)), cHalfInv1024, cHalf, c1024]
  simp only [hf, Ideal.div_coe h1024]
  simp only [← EReal.coe_mul, ← coe_sum]
  congr 1
  rw [Finset.mul_sum]
  refine Finset.sum_congr rfl fun t _ => ?_
  rw [← Finset.sum_mul]
  ring

/-- Whether lane `l` is one of head `k`'s 64. -/
def grp (l k : ℕ) : EReal := if l / 64 = k then 1 else 0

theorem isR_grp (l k : ℕ) : IsR (grp l k) := by unfold grp; split; exacts [isR_one, isR_zero]

/-- A product with the grouping matrix sums a head's lanes. -/
theorem sum_grp (p : Fin 512 → EReal) (k : ℕ) (hk : k < 8) :
    ∑ x : Fin 512, p x * grp x.val k = ∑ y : Fin 64, p ⟨k * 64 + y.val, by omega⟩ := by
  rw [Fin.sum_univ_tiles 8 64 rfl, Finset.sum_eq_single (⟨k, hk⟩ : Fin 8)]
  · refine Finset.sum_congr rfl fun y _ => ?_
    unfold grp
    rw [if_pos (by show (k * 64 + y.val) / 64 = k; omega), mul_one]
  · intro b _ hb
    refine Finset.sum_eq_zero fun y _ => ?_
    unfold grp
    have hb' : b.val ≠ k := fun h => hb (Fin.ext h)
    rw [if_neg (by show ¬(b.val * 64 + y.val) / 64 = k; omega), mul_zero]
  · intro h; exact absurd (Finset.mem_univ _) h

/-- A product with its transpose spreads the heads' values over their lanes. -/
theorem sum_ungrp (q : Fin 128 → EReal) (j : Fin 512) :
    ∑ x : Fin 128, q x * grp j.val x.val = q ⟨j.val / 64, by omega⟩ := by
  rw [Finset.sum_eq_single (⟨j.val / 64, by omega⟩ : Fin 128)]
  · unfold grp; rw [if_pos rfl, mul_one]
  · intro b _ hb
    have hb' : j.val / 64 ≠ b.val := fun h => hb (Fin.ext h.symm)
    unfold grp; rw [if_neg hb', mul_zero]
  · intro h; exact absurd (Finset.mem_univ _) h

/-- The kernel's sum of a head's lanes, each product taken in two parts of which the second is zero. -/
theorem group_eq {p : Fin 512 → EReal} (hp : ∀ x, IsR (p x)) (j : Fin 512) :
    (∑ x : Fin 128, ((∑ y : Fin 512, p y * grp y.val x.val) + ∑ y : Fin 512, (p y - p y) * grp y.val x.val) * grp j.val x.val)
      + ∑ x : Fin 128, (((∑ y : Fin 512, p y * grp y.val x.val) + ∑ y : Fin 512, (p y - p y) * grp y.val x.val)
          - ((∑ y : Fin 512, p y * grp y.val x.val) + ∑ y : Fin 512, (p y - p y) * grp y.val x.val)) * grp j.val x.val
      = ∑ y : Fin 64, p ⟨j.val / 64 * 64 + y.val, by omega⟩ := by
  have h0 : ∀ x : Fin 128, ∑ y : Fin 512, (p y - p y) * grp y.val x.val = 0 := fun x =>
    Finset.sum_eq_zero fun y _ => by rw [(hp y).sub_self, zero_mul]
  have hT : ∀ x : Fin 128, IsR (∑ y : Fin 512, p y * grp y.val x.val) := fun x =>
    isR_sum _ _ fun y => (hp y).mul (isR_grp _ _)
  simp only [h0, add_zero]
  have h1 : ∑ x : Fin 128, ((∑ y : Fin 512, p y * grp y.val x.val) - (∑ y : Fin 512, p y * grp y.val x.val)) * grp j.val x.val
      = 0 := Finset.sum_eq_zero fun x _ => by rw [(hT x).sub_self, zero_mul]
  rw [h1, add_zero, sum_ungrp (fun x => ∑ y : Fin 512, p y * grp y.val x.val) j]
  exact sum_grp p (j.val / 64) (by omega)

end Cert.RealMath

end
-- ==== Proof.BlockValue.lean ====
/- One grid point's blocks as values: where the inputs show the rows of the arguments, each output's block is the same rows
   of the reference's array. -/
module

public import proofs.«01_k».proof.Proof.Blocks
public import proofs.«01_k».proof.Proof.Finite
public import proofs.«01_k».proof.Proof.Sums

@[expose] public section

set_option maxRecDepth 16384

noncomputable section

namespace Cert.KernelIdeal.Out

open Idealize.ShloMosaic Idealize.ShloMosaic.TcCoe Cert.KernelIdeal Cert.KernelIdeal.Gen Cert.RealMath
open Cert.Layers (Arrs col wcol lanes)
open scoped BigOperators

/-- The blocks point `t` shows are its rows of the arguments and of what the host makes of them. -/
structure Fits (I : Ins Ideal) (A : Arrs) (t : Fin 8) : Prop where
  x : ∀ (r : Fin 512) (j : Fin 1024), I.x (ix2 r j) = A.x (ix2 (row t r) j)
  ydn : ∀ (r j : Fin 512), I.ydn (ix2 r j) = Layers.tDn A (ix2 (row t r) j)
  yatt : ∀ (r j : Fin 512), I.yatt (ix2 r j) = Layers.tAtt A (ix2 (row t r) j)
  w : ∀ (i j : Fin 1024), I.w (ix2 i j) = A.w (ix2 i j)
  tgt : ∀ (r : Fin 512) (j : Fin 1024), I.tgt (ix2 r j) = A.tgt (ix2 (row t r) j)
  wt : ∀ (i j : Fin 1024), I.wt (ix2 i j) = A.w (ix2 j i)
  o : ∀ (r j : Fin 512), I.o (ix2 r j) = A.o (ix2 (row t r) j)
  z : ∀ (r j : Fin 512), I.z (ix2 r j) = A.z (ix2 (row t r) j)
  nw : ∀ (u : Fin 1) (l : Fin 128), I.nw (ix2 u l) = A.nw (ix2 0 l)
  oa : ∀ (r j : Fin 512), I.oa (ix2 r j) = A.oa (ix2 (row t r) j)
  ga : ∀ (r j : Fin 512), I.ga (ix2 r j) = A.ga (ix2 (row t r) j)
  g : ∀ (l : Fin 512) (k : Fin 128), I.g (ix2 l k) = grp l.val k.val
  gt : ∀ (k : Fin 128) (l : Fin 512), I.gt (ix2 k l) = grp l.val k.val

theorem headOf_col (r : Fin 512) (k : Fin 4) (l : Fin 128) : headOf (ix2 r (col k l)) = k := Layers.split_head k l _
theorem inHead_col (r : Fin 512) (k : Fin 4) (l : Fin 128) : inHead (ix2 r (col k l)) = ix2 r l := by
  funext a
  match a with
  | ⟨0, _⟩ => rfl
  | ⟨1, _⟩ => exact Layers.split_lane k l _

variable {I : Ins Ideal} {A : Arrs} {t : Fin 8} (hI : Fits I A t) (s : St Ideal)
include hI

theorem mix_apply (r : Fin 512) (j : Fin 1024) : k0_pay6 I.ydn I.yatt (ix2 r j) = Layers.tMix A (ix2 (row t r) j) := by
  pointwise [k0_pay6]
  simp only [hI.ydn, hI.yatt, Layers.tMix_apply]

theorem err_apply (r : Fin 512) (j : Fin 1024) :
    k0_pay7 I.ydn I.yatt I.x I.w I.tgt (ix2 r j) = Layers.tErr A (ix2 (row t r) j) := by
  pointwise [k0_pay7]
  simp only [mix_apply hI, hI.x, hI.w, hI.tgt, Layers.tErr_apply]

theorem dyB_apply (r : Fin 512) (j : Fin 1024) : dyB I (ix2 r j) = Layers.tDy A (ix2 (row t r) j) := by
  pointwise [dyB, k0_pay8]
  rw [err_apply hI, Layers.tDy_apply]

theorem dmixB_apply (r : Fin 512) (j : Fin 1024) : dmixB I (ix2 r j) = Layers.tDmix A (ix2 (row t r) j) := by
  pointwise [dmixB, k0_pay13]
  simp only [dyB_apply hI, hI.wt, Layers.tDmix_apply]

/-! ## The attention branch -/

theorem doaB_apply (r j : Fin 512) : doaB I (ix2 r j) = Layers.tDoa A (ix2 (row t r) j) := by
  pointwise [doaB, k0_pay54, k0_pay53, k0_pay52, k0_pay51]
  rw [dmixB_apply hI, hI.ga, zero_sub, Layers.tDoa_apply, Layers.tDm2_apply]
  rfl

theorem dgB_apply (H : A.Real) (r j : Fin 512) : dgB I (ix2 r j) = Layers.tDg A (ix2 (row t r) j) := by
  rw [Layers.tDg, Layers.tGate_factor _ _ (H.oa _) (by rw [Layers.tDm2_apply]; exact Layers.isR_tDmix H _ _) (H.ga _),
    Layers.tDm2_apply]
  pointwise [dgB, k0_pay1, k0_pay53, k0_pay52, k0_pay51, k0_pay55]
  rw [dmixB_apply hI, hI.ga, hI.oa, zero_sub]
  rfl

theorem ddB_apply (H : A.Real) (r j : Fin 512) : ddB I (ix2 r j) = Layers.tDd A (ix2 (row t r) j) := by
  have hp : ∀ x : Fin 512, IsR (Layers.tDoa A (ix2 (row t r) x) * A.oa (ix2 (row t r) x)) := fun x =>
    (Layers.isR_tDoa H _ _).mul (H.oa _)
  rw [Layers.tDd_apply]
  pointwise [ddB, k0_pay2]
  simp only [doaB_apply hI, hI.oa, hI.g, hI.gt]
  exact group_eq hp j

/-! ## The DeltaNet branch -/

theorem cols_o (k : Fin 4) (r : Fin 512) (l : Fin 128) : cols k I.o (ix2 r l) = A.o (ix2 (row t r) (col k l)) :=
  (congrArg I.o (congrArg (ix2 r) (Fin.ext (by show 128 * k.val + l.val = k.val * 128 + l.val; omega)))).trans
    (hI.o r (col k l))
theorem cols_z (k : Fin 4) (r : Fin 512) (l : Fin 128) : cols k I.z (ix2 r l) = A.z (ix2 (row t r) (col k l)) :=
  (congrArg I.z (congrArg (ix2 r) (Fin.ext (by show 128 * k.val + l.val = k.val * 128 + l.val; omega)))).trans
    (hI.z r (col k l))
theorem dcols_dmix (k : Fin 4) (r : Fin 512) (l : Fin 128) :
    dcols k (dmixB I) (ix2 r l) = Layers.tDmix A (ix2 (row t r) (wcol k l)) :=
  (congrArg (dmixB I) (congrArg (ix2 r) (Fin.ext (by show 128 * k.val + l.val = k.val * 128 + l.val; omega)))).trans
    (dmixB_apply hI r (wcol k l))

theorem headDoOf_apply (H : A.Real) (k : Fin 4) (r : Fin 512) (l : Fin 128) :
    headDoOf I k (ix2 r l) = Layers.tDo A (ix2 (row t r) (col k l)) := by
  rw [Layers.tDo_proj H]
  simp only [Layers.tG_apply, Layers.tD_apply]
  pointwise [headDoOf, headDo, k0_pay22, k0_pay16, k0_pay17, k0_pay19, k0_pay21, k0_pay18]
  simp only [cols_o hI, cols_z hI, dcols_dmix hI, hI.nw, zero_sub]
  rfl

theorem headDzOf_apply (H : A.Real) (k : Fin 4) (r : Fin 512) (l : Fin 128) :
    headDzOf I k (ix2 r l) = Layers.tDz A (ix2 (row t r) (col k l)) := by
  rw [Layers.tDz, Layers.tGate_factor _ _ (Layers.isR_tOn H _ _)
    (by rw [Layers.tDm1_apply]; exact Layers.isR_tDmix H _ _) (H.z _), Layers.tDm1_apply, Layers.tOn_apply,
    Layers.tXh_apply]
  pointwise [headDzOf, headDz, k0_pay20, k0_pay16, k0_pay17, k0_pay18]
  simp only [cols_o hI, cols_z hI, dcols_dmix hI, hI.nw, zero_sub]
  exact congrArg (fun q : EReal => q * _) (mul_assoc (Layers.tDmix A (ix2 (row t r) (wcol k l))) _ _)

/-- What one head of one point adds to the norm weight's gradient. -/
theorem headNwOf_apply (k : Fin 4) (a : Vec Ideal S1x128 .f32) (l : Fin 128) : headNwOf I k a (ix2 0 l)
    = a (ix2 0 l) + ∑ r : Fin 512, Layers.tXh A (ix3 (row t r) k l) * Layers.tD A (ix3 (row t r) k l) := by
  simp only [Layers.tXh_apply, Layers.tD_apply]
  pointwise [headNwOf, headNw, k0_pay23, k0_pay16, k0_pay17, k0_pay18, k0_pay19, k0_pay21]
  simp only [cols_o hI, cols_z hI, dcols_dmix hI, zero_sub]
  congr 1
  exact Finset.sum_congr rfl fun r _ => mul_comm _ _

theorem nwB_apply (l : Fin 128) : nwB I (ix2 0 l)
    = ∑ r : Fin 512, ∑ k : Fin 4, Layers.tXh A (ix3 (row t r) k l) * Layers.tD A (ix3 (row t r) k l) := by
  rw [nwB, headNwOf_apply hI, headNwOf_apply hI, headNwOf_apply hI, headNwOf_apply hI, Finset.sum_comm, Fin.sum_univ_four]
  pointwise [k0_pay14]

theorem doB_apply (H : A.Real) (r j : Fin 512) : doB I (ix2 r j) = Layers.tDo A (ix2 (row t r) j) := by
  obtain ⟨k, l, rfl⟩ := Layers.exists_col j
  refine Eq.trans ?_ (headDoOf_apply hI H k r l)
  show headDoOf I (headOf (ix2 r (col k l))) (inHead (ix2 r (col k l))) = _
  rw [headOf_col, inHead_col]

theorem dzB_apply (H : A.Real) (r j : Fin 512) : dzB I (ix2 r j) = Layers.tDz A (ix2 (row t r) j) := by
  obtain ⟨k, l, rfl⟩ := Layers.exists_col j
  refine Eq.trans ?_ (headDzOf_apply hI H k r l)
  show headDzOf I (headOf (ix2 r (col k l))) (inHead (ix2 r (col k l))) = _
  rw [headOf_col, inHead_col]

/-! ## What a point adds to the running arrays -/

theorem step_loss (i : Fin 8) (l : Fin 128) : (step I s).loss (ix2 i l) = s.loss (ix2 i l)
    + (∑ r : Fin 512, ∑ j, Layers.tErr A (ix2 (row t r) j) * Layers.tErr A (ix2 (row t r) j))
        * Ideal.ofBits .f32 973078528#32 := by
  pointwise [step, k0_pay9]
  simp only [err_apply hI]

theorem step_nw (i : Fin 8) (l : Fin 128) : (step I s).nw (ix2 i l) = s.nw (ix2 i l)
    + ∑ r : Fin 512, ∑ k : Fin 4, Layers.tXh A (ix3 (row t r) k l) * Layers.tD A (ix3 (row t r) k l) := by
  rw [← nwB_apply hI l]
  pointwise [step]

theorem step_acc (i j : Fin 1024) : (step I s).acc (ix2 i j) = s.acc (ix2 i j)
    + ∑ r : Fin 512, Layers.tDy A (ix2 (row t r) j) * Layers.tMix A (ix2 (row t r) i) := by
  pointwise [step, k0_pay11, k0_pay10]
  simp only [dyB_apply hI, mix_apply hI]
  congr 1
  exact Finset.sum_congr rfl fun r _ => mul_comm _ _

end Cert.KernelIdeal.Out

end
-- ==== Proof.HostValues.lean ====
/- What the host prepares before the kernel: the two gated branches, the weight and its transpose, and the grouping matrix
   with its transpose, each in terms of the arguments. -/
module

public import proofs.«01_k».proof.Proof.BlockValue
public import Idealize.ShloMosaic.Lib.StableHlo.ReadAt

@[expose] public section

set_option maxRecDepth 16384

noncomputable section

namespace Cert.KernelIdeal.Out

open Idealize.ShloMosaic Idealize.ShloMosaic.TcCoe Idealize.ShloMosaic.Tactic Cert.KernelIdeal Cert.KernelIdeal.Gen
open Cert.RealMath
open Cert.Layers (Arrs)

variable (m : (ℓ : Loc nD τ sig) → Buf (Elt Ideal) ℓ) (c : Dev nD)

/-- The arguments as launched. -/
def arrs : Arrs where
  x := m ((c : Thread nD τ).loc main_arg0)
  o := m ((c : Thread nD τ).loc main_arg1)
  z := m ((c : Thread nD τ).loc main_arg2)
  nw := m ((c : Thread nD τ).loc main_arg3)
  oa := m ((c : Thread nD τ).loc main_arg4)
  ga := m ((c : Thread nD τ).loc main_arg5)
  w := m ((c : Thread nD τ).loc main_arg6)
  tgt := m ((c : Thread nD τ).loc main_arg7)

theorem V_ydn : V m c main_v27 = Layers.tDn (arrs m c) := by
  unfold V
  after_reads_simp
  rfl

theorem V_yatt : V m c main_v30 = Layers.tAtt (arrs m c) := by
  unfold V
  after_reads_simp
  rfl

theorem V_w : V m c main_v9 = (arrs m c).w := by
  unfold V
  after_reads_simp
  rfl

theorem V_wt (i j : Fin 1024) : (V m c main_v31 : FVec Ideal S1024x1024 .bf16) (ix2 i j) = (arrs m c).w (ix2 j i) := by
  unfold V
  after_reads_at
  rfl

/-- The host's comparison of a head's number with a lane's. -/
theorem eye_grp (l : Fin 512) (k : Fin 128) :
    (FloatOps.uitofp .f32 (IntOp.cmpi .eq (IntOp.addi (BitVec.ofNat 32 (l.val / 64)) 0#32) (BitVec.ofNat 32 k.val)) : Ideal .f32)
      = grp l.val k.val := by
  have e : (BitVec.ofNat 32 (l.val / 64) = BitVec.ofNat 32 k.val) ↔ l.val / 64 = k.val := by
    constructor
    · intro h
      have h' := congrArg BitVec.toNat h
      rw [BitVec.toNat_ofNat, BitVec.toNat_ofNat] at h'
      omega
    · intro h; rw [h]
  unfold grp
  by_cases h : l.val / 64 = k.val
  · rw [if_pos h, h]
    simp only [IntOp.cmpi, IntOp.addi, BitVec.add_zero, beq_self_eq_true]
    show (((1#1 : BitVec 1).toNat : ℝ) : EReal) = 1
    simp
  · rw [if_neg h]
    simp only [IntOp.cmpi, IntOp.addi, BitVec.add_zero, beq_eq_false_iff_ne.2 (mt e.1 h)]
    show (((0#1 : BitVec 1).toNat : ℝ) : EReal) = 0
    simp

theorem V_g (l : Fin 512) (k : Fin 128) : (V m c main_v7 : FVec Ideal S512x128 .f32) (ix2 l k) = grp l.val k.val := by
  unfold V
  after_reads_at
  exact eye_grp l k

theorem V_gt (k : Fin 128) (l : Fin 512) : (V m c main_v8 : FVec Ideal S128x512 .f32) (ix2 k l) = grp l.val k.val := by
  unfold V
  after_reads_at
  exact eye_grp l k

end Cert.KernelIdeal.Out

end
-- ==== Proof.Inputs.lean ====
/- What the blocks of the kernel's inputs show at a grid point: a row window the point's 512 rows of its array, a whole
   window its array. -/
module

public import proofs.«01_k».proof.Proof.HostValues
public import Idealize.ShloMosaic.Lib.Pipeline.ValueKit

@[expose] public section

set_option maxRecDepth 16384

noncomputable section

namespace Cert.KernelIdeal.Out

open Idealize.ShloMosaic Idealize.ShloMosaic.TcCoe Idealize.ShloMosaic.Tactic Cert.KernelIdeal Cert.KernelIdeal.Gen
open Cert.RealMath
open Cert.Layers (Arrs)

/-- The grid point as a number below eight. -/
abbrev pt (t : Fin cfg0.N) : Fin 8 := ⟨t.val, N_0 ▸ t.isLt⟩

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)

variable (m : (ℓ : Loc nD τ sig) → Buf (Elt Ideal) ℓ) (c : Dev nD) (t : Fin cfg0.N)

theorem blk_x (r : Fin 512) (j : Fin 1024) :
    (iblk m c 0 t : FVec Ideal S512x1024 .f32) (ix2 r j) = (arrs m c).x (ix2 (row (pt t) r) j) := by
  show V m c main_arg0 _ = m ((c : Thread nD τ).loc main_arg0) _
  rw [V_main_arg0]
  blk_ext [ix_0]

theorem blk_ydn (r j : Fin 512) :
    (iblk m c 1 t : FVec Ideal S512x512 .bf16) (ix2 r j) = Layers.tDn (arrs m c) (ix2 (row (pt t) r) j) := by
  rw [← V_ydn]
  show V m c main_v27 _ = V m c main_v27 _
  blk_ext [ix_1]

theorem blk_yatt (r j : Fin 512) :
    (iblk m c 2 t : FVec Ideal S512x512 .bf16) (ix2 r j) = Layers.tAtt (arrs m c) (ix2 (row (pt t) r) j) := by
  rw [← V_yatt]
  show V m c main_v30 _ = V m c main_v30 _
  blk_ext [ix_2]

theorem blk_w (i j : Fin 1024) : (iblk m c 3 t : FVec Ideal S1024x1024 .bf16) (ix2 i j) = (arrs m c).w (ix2 i j) := by
  rw [← V_w]
  show V m c main_v9 _ = V m c main_v9 _
  blk_ext [ix_3]

theorem blk_tgt (r : Fin 512) (j : Fin 1024) :
    (iblk m c 4 t : FVec Ideal S512x1024 .f32) (ix2 r j) = (arrs m c).tgt (ix2 (row (pt t) r) j) := by
  show V m c main_arg7 _ = m ((c : Thread nD τ).loc main_arg7) _
  rw [V_main_arg7]
  blk_ext [ix_4]

theorem blk_wt (i j : Fin 1024) : (iblk m c 5 t : FVec Ideal S1024x1024 .bf16) (ix2 i j) = (arrs m c).w (ix2 j i) := by
  rw [← V_wt]
  show V m c main_v31 _ = V m c main_v31 _
  blk_ext [ix_5]

theorem blk_o (r j : Fin 512) :
    (iblk m c 6 t : FVec Ideal S512x512 .f32) (ix2 r j) = (arrs m c).o (ix2 (row (pt t) r) j) := by
  show V m c main_arg1 _ = m ((c : Thread nD τ).loc main_arg1) _
  rw [V_main_arg1]
  blk_ext [ix_6]

theorem blk_z (r j : Fin 512) :
    (iblk m c 7 t : FVec Ideal S512x512 .f32) (ix2 r j) = (arrs m c).z (ix2 (row (pt t) r) j) := by
  show V m c main_arg2 _ = m ((c : Thread nD τ).loc main_arg2) _
  rw [V_main_arg2]
  blk_ext [ix_7]

theorem blk_nw (u : Fin 1) (l : Fin 128) :
    (iblk m c 8 t : FVec Ideal S1x128 .f32) (ix2 u l) = (arrs m c).nw (ix2 0 l) := by
  show V m c main_arg3 _ = m ((c : Thread nD τ).loc main_arg3) _
  rw [V_main_arg3]
  blk_ext [ix_8]

theorem blk_oa (r j : Fin 512) :
    (iblk m c 9 t : FVec Ideal S512x512 .f32) (ix2 r j) = (arrs m c).oa (ix2 (row (pt t) r) j) := by
  show V m c main_arg4 _ = m ((c : Thread nD τ).loc main_arg4) _
  rw [V_main_arg4]
  blk_ext [ix_9]

theorem blk_ga (r j : Fin 512) :
    (iblk m c 10 t : FVec Ideal S512x512 .f32) (ix2 r j) = (arrs m c).ga (ix2 (row (pt t) r) j) := by
  show V m c main_arg5 _ = m ((c : Thread nD τ).loc main_arg5) _
  rw [V_main_arg5]
  blk_ext [ix_10]

theorem blk_g (l : Fin 512) (k : Fin 128) : (iblk m c 11 t : FVec Ideal S512x128 .f32) (ix2 l k) = grp l.val k.val := by
  rw [← V_g m c]
  show V m c main_v7 _ = V m c main_v7 _
  blk_ext [ix_11]

theorem blk_gt (k : Fin 128) (l : Fin 512) : (iblk m c 12 t : FVec Ideal S128x512 .f32) (ix2 k l) = grp l.val k.val := by
  rw [← V_gt m c]
  show V m c main_v8 _ = V m c main_v8 _
  blk_ext [ix_12]

end Cert.KernelIdeal.Out
-- ==== Proof.Running.lean ====
/- The running arrays after the last point: the sums over every row of the batch. -/
module

public import proofs.«01_k».proof.Proof.Points
public import proofs.«01_k».proof.Proof.Inputs

@[expose] public section

set_option maxRecDepth 16384

noncomputable section

namespace Cert.KernelIdeal.Out

open Idealize.ShloMosaic Idealize.ShloMosaic.TcCoe Idealize.ShloMosaic.Tactic Cert.KernelIdeal Cert.KernelIdeal.Gen
open Cert.RealMath
open Cert.Layers (Arrs)
open scoped BigOperators

/-- A running value that starts at zero and takes a term a point ends at the sum of the terms. -/
theorem sum_of_steps (f : ℕ → EReal) (g : Fin 8 → EReal) (h0 : f 0 = 0) (hs : ∀ t : Fin 8, f (t.val + 1) = f t.val + g t) :
    f 8 = ∑ t, g t := by
  rw [Fin.sum_univ_eight, show f 8 = f 7 + g 7 from hs 7, show f 7 = f 6 + g 6 from hs 6, show f 6 = f 5 + g 5 from hs 5,
    show f 5 = f 4 + g 4 from hs 4, show f 4 = f 3 + g 3 from hs 3, show f 3 = f 2 + g 2 from hs 2,
    show f 2 = f 1 + g 1 from hs 1, show f 1 = f 0 + g 0 from hs 0, h0, zero_add]

variable (m : (ℓ : Loc nD τ sig) → Buf (Elt Ideal) ℓ) (c : Dev nD)

theorem fits_x (t : Fin cfg0.N) : ∀ (r : Fin 512) (j : Fin 1024), (ins m c t).x (ix2 r j) = (arrs m c).x (ix2 (row (pt t) r) j) :=
    fun a b => blk_x m c t a b
theorem fits_ydn (t : Fin cfg0.N) : ∀ (r j : Fin 512), (ins m c t).ydn (ix2 r j) = Layers.tDn (arrs m c) (ix2 (row (pt t) r) j) :=
    fun a b => blk_ydn m c t a b
theorem fits_yatt (t : Fin cfg0.N) : ∀ (r j : Fin 512), (ins m c t).yatt (ix2 r j) = Layers.tAtt (arrs m c) (ix2 (row (pt t) r) j) :=
    fun a b => blk_yatt m c t a b
theorem fits_w (t : Fin cfg0.N) : ∀ (i j : Fin 1024), (ins m c t).w (ix2 i j) = (arrs m c).w (ix2 i j) :=
    fun a b => blk_w m c t a b
theorem fits_tgt (t : Fin cfg0.N) : ∀ (r : Fin 512) (j : Fin 1024), (ins m c t).tgt (ix2 r j) = (arrs m c).tgt (ix2 (row (pt t) r) j) :=
    fun a b => blk_tgt m c t a b
theorem fits_wt (t : Fin cfg0.N) : ∀ (i j : Fin 1024), (ins m c t).wt (ix2 i j) = (arrs m c).w (ix2 j i) :=
    fun a b => blk_wt m c t a b
theorem fits_o (t : Fin cfg0.N) : ∀ (r j : Fin 512), (ins m c t).o (ix2 r j) = (arrs m c).o (ix2 (row (pt t) r) j) :=
    fun a b => blk_o m c t a b
theorem fits_z (t : Fin cfg0.N) : ∀ (r j : Fin 512), (ins m c t).z (ix2 r j) = (arrs m c).z (ix2 (row (pt t) r) j) :=
    fun a b => blk_z m c t a b
theorem fits_nw (t : Fin cfg0.N) : ∀ (u : Fin 1) (l : Fin 128), (ins m c t).nw (ix2 u l) = (arrs m c).nw (ix2 0 l) :=
    fun a b => blk_nw m c t a b
theorem fits_oa (t : Fin cfg0.N) : ∀ (r j : Fin 512), (ins m c t).oa (ix2 r j) = (arrs m c).oa (ix2 (row (pt t) r) j) :=
    fun a b => blk_oa m c t a b
theorem fits_ga (t : Fin cfg0.N) : ∀ (r j : Fin 512), (ins m c t).ga (ix2 r j) = (arrs m c).ga (ix2 (row (pt t) r) j) :=
    fun a b => blk_ga m c t a b
theorem fits_g (t : Fin cfg0.N) : ∀ (l : Fin 512) (k : Fin 128), (ins m c t).g (ix2 l k) = grp l.val k.val :=
    fun a b => blk_g m c t a b
theorem fits_gt (t : Fin cfg0.N) : ∀ (k : Fin 128) (l : Fin 512), (ins m c t).gt (ix2 k l) = grp l.val k.val :=
    fun a b => blk_gt m c t a b

/-- The blocks at point `t` are its rows of the arguments. -/
theorem fits (t : Fin cfg0.N) : Fits (ins m c t) (arrs m c) (pt t) :=
  ⟨fits_x m c t, fits_ydn m c t, fits_yatt m c t, fits_w m c t, fits_tgt m c t, fits_wt m c t, fits_o m c t,
    fits_z m c t, fits_nw m c t, fits_oa m c t, fits_ga m c t, fits_g m c t, fits_gt m c t⟩

/-! ## The running arrays after the last point -/

theorem start_loss (i : Fin 8) (l : Fin 128) : (start (F := Ideal)).loss (ix2 i l) = 0 := by
  pointwise [start, k0_pay3, k0_pay4, k0_pay5]

theorem start_nw (i : Fin 8) (l : Fin 128) : (start (F := Ideal)).nw (ix2 i l) = 0 := by
  pointwise [start, k0_pay3, k0_pay4, k0_pay5]

theorem start_acc (i j : Fin 1024) : (start (F := Ideal)).acc (ix2 i j) = 0 := by
  pointwise [start, k0_pay3, k0_pay4, k0_pay5]

/-- The grid point of a number below eight. -/
abbrev atN (t : Fin 8) : Fin cfg0.N := ⟨t.val, lt_of_lt_of_eq t.isLt (show 8 = cfg0.N from N_0.symm)⟩

theorem stN_zero : stN m c 0 = start := by rw [stN]

theorem loss_succ (t : Fin 8) (i : Fin 8) (l : Fin 128) : (stN m c (t.val + 1)).loss (ix2 i l) = (stN m c t.val).loss (ix2 i l)
    + (∑ r : Fin 512, ∑ j, Layers.tErr (arrs m c) (ix2 (row t r) j) * Layers.tErr (arrs m c) (ix2 (row t r) j))
        * Ideal.ofBits .f32 973078528#32 := by
  have e : stN m c (t.val + 1) = step (ins m c (atN t)) (stN m c t.val) := stN_succ m c (atN t)
  have h := step_loss (fits m c (atN t)) (stN m c t.val) i l
  rw [e]
  exact h

theorem nw_succ (t : Fin 8) (i : Fin 8) (l : Fin 128) : (stN m c (t.val + 1)).nw (ix2 i l) = (stN m c t.val).nw (ix2 i l)
    + ∑ r : Fin 512, ∑ k : Fin 4, Layers.tXh (arrs m c) (ix3 (row t r) k l) * Layers.tD (arrs m c) (ix3 (row t r) k l) := by
  have e : stN m c (t.val + 1) = step (ins m c (atN t)) (stN m c t.val) := stN_succ m c (atN t)
  have h := step_nw (fits m c (atN t)) (stN m c t.val) i l
  rw [e]
  exact h

theorem acc_succ (t : Fin 8) (i j : Fin 1024) : (stN m c (t.val + 1)).acc (ix2 i j) = (stN m c t.val).acc (ix2 i j)
    + ∑ r : Fin 512, Layers.tDy (arrs m c) (ix2 (row t r) j) * Layers.tMix (arrs m c) (ix2 (row t r) i) := by
  have e : stN m c (t.val + 1) = step (ins m c (atN t)) (stN m c t.val) := stN_succ m c (atN t)
  have h := step_acc (fits m c (atN t)) (stN m c t.val) i j
  rw [e]
  exact h

theorem last_loss (H : (arrs m c).Real) (i : Fin 8) (l : Fin 128) :
    (stN m c 8).loss (ix2 i l) = Layers.tLoss (arrs m c) (ix2 i l) := by
  have h0 : (stN m c 0).loss (ix2 i l) = 0 := by rw [stN_zero]; exact start_loss i l
  have hs := fun t => loss_succ m c t i l
  generalize stN m c = s at h0 hs ⊢
  rw [Layers.tLoss_apply, ← loss_eq (e := fun x y => Layers.tErr (arrs m c) (ix2 x y)) (fun x y => Layers.isR_tErr H x y)]
  exact sum_of_steps (fun n => (s n).loss (ix2 i l)) _ h0 hs

theorem last_nw (i : Fin 8) (l : Fin 128) : (stN m c 8).nw (ix2 i l) = Layers.tDnw (arrs m c) (ix2 i l) := by
  have h0 : (stN m c 0).nw (ix2 i l) = 0 := by rw [stN_zero]; exact start_nw i l
  have hs := fun t => nw_succ m c t i l
  generalize stN m c = s at h0 hs ⊢
  rw [Layers.tDnw_apply, sum_rows]
  exact sum_of_steps (fun n => (s n).nw (ix2 i l)) _ h0 hs

theorem last_acc (i j : Fin 1024) : (stN m c 8).acc (ix2 i j) = Layers.tDw (arrs m c) (ix2 i j) := by
  have h0 : (stN m c 0).acc (ix2 i j) = 0 := by rw [stN_zero]; exact start_acc i j
  have hs := fun t => acc_succ m c t i j
  generalize stN m c = s at h0 hs ⊢
  rw [Layers.tDw_apply, sum_rows]
  exact sum_of_steps (fun n => (s n).acc (ix2 i j)) _ h0 hs

end Cert.KernelIdeal.Out

end
-- ==== Proof.Finals.lean ====
/- What every result's array holds at the end of the run: the reference's array of the arguments. -/
module

public import proofs.«01_k».proof.Proof.Running

@[expose] public section

set_option maxRecDepth 16384

noncomputable section

namespace Cert.KernelIdeal.Out

open Idealize.ShloMosaic Idealize.ShloMosaic.TcCoe Idealize.ShloMosaic.Tactic Cert.KernelIdeal Cert.KernelIdeal.Gen
open Cert.RealMath
open Cert.Layers (Arrs)
open scoped BigOperators

theorem ix_13 : ∀ t : Fin cfg0.N, win0_13.index t = ![t.val, 0] := (by decide +kernel : ∀ t : Fin grid0.N, _)
theorem ix_14 : ∀ t : Fin cfg0.N, win0_14.index t = ![0, 0] := (by decide +kernel : ∀ t : Fin grid0.N, _)
theorem ix_15 : ∀ t : Fin cfg0.N, win0_15.index t = ![0, 0] := (by decide +kernel : ∀ t : Fin grid0.N, _)
theorem ix_16 : ∀ t : Fin cfg0.N, win0_16.index t = ![t.val, 0] := (by decide +kernel : ∀ t : Fin grid0.N, _)
theorem ix_17 : ∀ t : Fin cfg0.N, win0_17.index t = ![t.val, 0] := (by decide +kernel : ∀ t : Fin grid0.N, _)
theorem ix_18 : ∀ t : Fin cfg0.N, win0_18.index t = ![t.val, 0] := (by decide +kernel : ∀ t : Fin grid0.N, _)
theorem ix_19 : ∀ t : Fin cfg0.N, win0_19.index t = ![t.val, 0] := (by decide +kernel : ∀ t : Fin grid0.N, _)
theorem ix_20 : ∀ t : Fin cfg0.N, win0_20.index t = ![t.val, 0] := (by decide +kernel : ∀ t : Fin grid0.N, _)
theorem ix_21 : ∀ t : Fin cfg0.N, win0_21.index t = ![0, 0] := (by decide +kernel : ∀ t : Fin grid0.N, _)

theorem exists_ix2 {a b : ℕ} (y : Shape.Idx ⟨2, ![a, b]⟩) : ∃ (i : Fin a) (j : Fin b), y = ix2 i j :=
  ⟨y 0, y 1, by funext k; match k with | ⟨0, _⟩ => rfl | ⟨1, _⟩ => rfl⟩

variable (m : (ℓ : Loc nD τ sig) → Buf (Elt Ideal) ℓ) (c : Dev nD)

theorem final_13 : (dats m 0 c).arrAt 13 cfg0.N = Layers.tDy (arrs m c) := by
  refine (dats m 0 c).arrAt_eq_of_covers 13 _ (by decide +kernel) fun t hf y => ?_
  blk_simp
  rw [after0_13]
  obtain ⟨r, j, rfl⟩ := exists_ix2 y
  refine (dyB_apply (fits m c t) r j).trans ?_
  blk_ext [ix_13]

theorem final_14 : (dats m 0 c).arrAt 14 cfg0.N = Layers.tDw (arrs m c) := by
  refine (dats m 0 c).arrAt_eq_of_covers 14 _ (by decide +kernel) fun t hf y => ?_
  have h7 : t.val + 1 = 8 := by have h := (flush0_14 t).mp hf; have h8 : t.val < 8 := (pt t).isLt; omega
  blk_simp
  rw [after0_14, h7]
  obtain ⟨i, j, rfl⟩ := exists_ix2 y
  pointwise [k0_pay12]
  refine (last_acc m c i j).trans ?_
  blk_ext [ix_14]

theorem final_15 (H : (arrs m c).Real) : (dats m 0 c).arrAt 15 cfg0.N = Layers.tLoss (arrs m c) := by
  refine (dats m 0 c).arrAt_eq_of_covers 15 _ (by decide +kernel) fun t hf y => ?_
  have h7 : t.val + 1 = 8 := by have h := (flush0_15 t).mp hf; have h8 : t.val < 8 := (pt t).isLt; omega
  blk_simp
  rw [after0_15, h7]
  obtain ⟨i, j, rfl⟩ := exists_ix2 y
  refine (last_loss m c H i j).trans ?_
  blk_ext [ix_15]

theorem final_16 (H : (arrs m c).Real) : (dats m 0 c).arrAt 16 cfg0.N = Layers.tDo (arrs m c) := by
  refine (dats m 0 c).arrAt_eq_of_covers 16 _ (by decide +kernel) fun t hf y => ?_
  blk_simp
  rw [after0_16]
  obtain ⟨r, j, rfl⟩ := exists_ix2 y
  refine (doB_apply (fits m c t) H r j).trans ?_
  blk_ext [ix_16]

theorem final_17 (H : (arrs m c).Real) : (dats m 0 c).arrAt 17 cfg0.N = Layers.tDz (arrs m c) := by
  refine (dats m 0 c).arrAt_eq_of_covers 17 _ (by decide +kernel) fun t hf y => ?_
  blk_simp
  rw [after0_17]
  obtain ⟨r, j, rfl⟩ := exists_ix2 y
  refine (dzB_apply (fits m c t) H r j).trans ?_
  blk_ext [ix_17]

theorem final_18 : (dats m 0 c).arrAt 18 cfg0.N = Layers.tDoa (arrs m c) := by
  refine (dats m 0 c).arrAt_eq_of_covers 18 _ (by decide +kernel) fun t hf y => ?_
  blk_simp
  rw [after0_18]
  obtain ⟨r, j, rfl⟩ := exists_ix2 y
  refine (doaB_apply (fits m c t) r j).trans ?_
  blk_ext [ix_18]

theorem final_19 (H : (arrs m c).Real) : (dats m 0 c).arrAt 19 cfg0.N = Layers.tDg (arrs m c) := by
  refine (dats m 0 c).arrAt_eq_of_covers 19 _ (by decide +kernel) fun t hf y => ?_
  blk_simp
  rw [after0_19]
  obtain ⟨r, j, rfl⟩ := exists_ix2 y
  refine (dgB_apply (fits m c t) H r j).trans ?_
  blk_ext [ix_19]

theorem final_20 (H : (arrs m c).Real) : (dats m 0 c).arrAt 20 cfg0.N = Layers.tDd (arrs m c) := by
  refine (dats m 0 c).arrAt_eq_of_covers 20 _ (by decide +kernel) fun t hf y => ?_
  blk_simp
  rw [after0_20]
  obtain ⟨r, j, rfl⟩ := exists_ix2 y
  refine (ddB_apply (fits m c t) H r j).trans ?_
  blk_ext [ix_20]

theorem final_21 : (dats m 0 c).arrAt 21 cfg0.N = Layers.tDnw (arrs m c) := by
  refine (dats m 0 c).arrAt_eq_of_covers 21 _ (by decide +kernel) fun t hf y => ?_
  have h7 : t.val + 1 = 8 := by have h := (flush0_21 t).mp hf; have h8 : t.val < 8 := (pt t).isLt; omega
  blk_simp
  rw [after0_21, h7]
  obtain ⟨i, j, rfl⟩ := exists_ix2 y
  refine (last_nw m c i j).trans ?_
  blk_ext [ix_21]

end Cert.KernelIdeal.Out

end
-- ==== Proof.Results.lean ====
/- The kernel's run with its results: from finite arguments every execution terminates with the nine results the reference's
   arrays and the arguments kept. -/
module

public import proofs.«01_k».proof.Proof.Kept
public import proofs.«01_k».proof.Proof.Finals

@[expose] public section

set_option maxRecDepth 16384
set_option maxHeartbeats 1000000

noncomputable section

namespace Cert.KernelIdeal.Out

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

section

variable {m} {r : PUnit × MemSt nD τ sig (Elt Ideal)} (h : Pipeline.FramePost cfgs (dats m) 0 (V m) r) (c : Dev nD)
include h

theorem out_13 : r.2.mem ((c.tc : Thread nD τ).loc main_v32_0) = Layers.tDy (arrs m c) :=
  (h.out_eq c 13).trans (final_13 m c)
theorem out_14 : r.2.mem ((c.tc : Thread nD τ).loc main_v32_1) = Layers.tDw (arrs m c) :=
  (h.out_eq c 14).trans (final_14 m c)
theorem out_15 (H : (arrs m c).Real) : r.2.mem ((c.tc : Thread nD τ).loc main_v32_2) = Layers.tLoss (arrs m c) :=
  (h.out_eq c 15).trans (final_15 m c H)
theorem out_16 (H : (arrs m c).Real) : r.2.mem ((c.tc : Thread nD τ).loc main_v32_3) = Layers.tDo (arrs m c) :=
  (h.out_eq c 16).trans (final_16 m c H)
theorem out_17 (H : (arrs m c).Real) : r.2.mem ((c.tc : Thread nD τ).loc main_v32_4) = Layers.tDz (arrs m c) :=
  (h.out_eq c 17).trans (final_17 m c H)
theorem out_18 : r.2.mem ((c.tc : Thread nD τ).loc main_v32_5) = Layers.tDoa (arrs m c) :=
  (h.out_eq c 18).trans (final_18 m c)
theorem out_19 (H : (arrs m c).Real) : r.2.mem ((c.tc : Thread nD τ).loc main_v32_6) = Layers.tDg (arrs m c) :=
  (h.out_eq c 19).trans (final_19 m c H)
theorem out_20 (H : (arrs m c).Real) : r.2.mem ((c.tc : Thread nD τ).loc main_v32_7) = Layers.tDd (arrs m c) :=
  (h.out_eq c 20).trans (final_20 m c H)
theorem out_21 : r.2.mem ((c.tc : Thread nD τ).loc main_v32_8) = Layers.tDnw (arrs m c) :=
  (h.out_eq c 21).trans (final_21 m c)

end

/-- Every weakly fair execution of the kernel terminates, its results the arrays of `Layers`. -/
theorem run_layers (H : ∀ c, (arrs m c).Real) :
    θ_run defs (onTc (τ := τ) (main (F := Ideal))) ⟨m, fun _ => 0, ρ⟩ fun r => ∀ c : Dev nD,
      (r.2.mem ((c.tc : Thread nD τ).loc main_v32_0) = Layers.tDy (arrs m c)
      ∧ r.2.mem ((c.tc : Thread nD τ).loc main_v32_1) = Layers.tDw (arrs m c)
      ∧ r.2.mem ((c.tc : Thread nD τ).loc main_v32_2) = Layers.tLoss (arrs m c)
      ∧ r.2.mem ((c.tc : Thread nD τ).loc main_v32_3) = Layers.tDo (arrs m c)
      ∧ r.2.mem ((c.tc : Thread nD τ).loc main_v32_4) = Layers.tDz (arrs m c)
      ∧ r.2.mem ((c.tc : Thread nD τ).loc main_v32_5) = Layers.tDoa (arrs m c)
      ∧ r.2.mem ((c.tc : Thread nD τ).loc main_v32_6) = Layers.tDg (arrs m c)
      ∧ r.2.mem ((c.tc : Thread nD τ).loc main_v32_7) = Layers.tDd (arrs m c)
      ∧ r.2.mem ((c.tc : Thread nD τ).loc main_v32_8) = Layers.tDnw (arrs m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨⟨out_13 h c, out_14 h c, out_15 h c (H c), out_16 h c (H c), out_17 h c (H c),
      out_18 h c, out_19 h c (H c), out_20 h c (H c), out_21 h c⟩, args_kept m h c⟩) (run_main m ρ)

end Cert.KernelIdeal.Out

end
-- ==== Proof.Finiteness.lean ====
/- The stated precondition, every argument finite, read as: every argument's entry is a real. -/
module

public import proofs.«01_k».proof.Proof.HostValues
public import proofs.«01_k».proof.Defs

@[expose] public section

set_option maxRecDepth 16384

noncomputable section

namespace Cert.KernelIdeal.Out

open Idealize.ShloMosaic Idealize.ShloMosaic.TcCoe Cert.KernelIdeal
open Cert.RealMath

/-- The side conditions of the precondition's operations. -/
theorem finite_facts : Cert.Pre_finite.Facts where
  bcast_S_S4096x1024 := by decide
  bcast_S_S4096x512 := by decide
  bcast_S_S1x128 := by decide
  bcast_S_S1024x1024 := by decide

theorem cTop : Ideal.ofBits .f32 2139095040#32 = ⊤ := by simp [Ideal.ofBits, Ideal.ieee]

/-- An extended real whose absolute value is below infinity is a real. -/
theorem isR_of_abs_lt {x : EReal} (h : Ideal.cmp .olt (max x (-x)) ⊤ = 1#1) : IsR x := by
  induction x with
  | bot => simp [Ideal.cmp] at h
  | top => simp [Ideal.cmp] at h
  | coe r => exact isR_coe r

theorem real_of_finite [Cert.Pre_finite.Facts] (m : (ℓ : Loc nD τ sig) → Buf (Elt Ideal) ℓ)
    (h : Cert.Pre_KernelIdeal_finite m) (c : Dev nD) : (arrs m c).Real := by
  obtain ⟨h0, h1, h2, h3, h4, h5, h6, h7⟩ := h c
  constructor <;> intro i <;> refine isR_of_abs_lt (cTop ▸ ?_)
  · exact congrFun h0 i
  · exact congrFun h1 i
  · exact congrFun h2 i
  · exact congrFun h3 i
  · exact congrFun h4 i
  · exact congrFun h5 i
  · exact congrFun h6 i
  · exact congrFun h7 i

end Cert.KernelIdeal.Out
-- ==== Proof.Reference.lean ====
/- The reference's results are the arrays named in `Layers`, of its arguments. -/
module

public import proofs.«01_k».proof.Proof.Layers
public import proofs.«01_k».proof.Proof.Gen.ReferenceIdeal.Run

@[expose] public section

set_option maxRecDepth 16384

noncomputable section

namespace Cert.ReferenceIdeal.Value

open Idealize.ShloMosaic Idealize.ShloMosaic.TcCoe Cert.ReferenceIdeal
open Cert.Layers (Arrs)

variable (m : (ℓ : Loc nD τ sig) → Buf (Elt Ideal) ℓ) (c : Dev nD)

/-- The reference's arguments as launched. -/
def refArrs : Arrs where
  x := m ((c : Thread nD τ).loc main_arg0)
  o := m ((c : Thread nD τ).loc main_arg1)
  z := m ((c : Thread nD τ).loc main_arg2)
  nw := m ((c : Thread nD τ).loc main_arg3)
  oa := m ((c : Thread nD τ).loc main_arg4)
  ga := m ((c : Thread nD τ).loc main_arg5)
  w := m ((c : Thread nD τ).loc main_arg6)
  tgt := m ((c : Thread nD τ).loc main_arg7)

/-- Every weakly fair execution of the reference terminates, its results the arrays of `Layers` and its arguments kept. -/
theorem run_layers (ρ : Dev nD → PrngReg) :
    θ_run defs (onTc (τ := τ) (main (F := Ideal))) ⟨m, fun _ => 0, ρ⟩ fun r => ∀ c : Dev nD,
      r.2.mem ((c.tc : Thread nD τ).loc main_v39) = Layers.tDy (refArrs m c)
      ∧ r.2.mem ((c.tc : Thread nD τ).loc main_v77) = Layers.tDw (refArrs m c)
      ∧ r.2.mem ((c.tc : Thread nD τ).loc main_v78) = Layers.tLoss (refArrs m c)
      ∧ r.2.mem ((c.tc : Thread nD τ).loc main_v73) = Layers.tDo (refArrs m c)
      ∧ r.2.mem ((c.tc : Thread nD τ).loc main_v79) = Layers.tDz (refArrs m c)
      ∧ r.2.mem ((c.tc : Thread nD τ).loc main_v46) = Layers.tDoa (refArrs m c)
      ∧ r.2.mem ((c.tc : Thread nD τ).loc main_v80) = Layers.tDg (refArrs m c)
      ∧ r.2.mem ((c.tc : Thread nD τ).loc main_v82) = Layers.tDd (refArrs m c)
      ∧ r.2.mem ((c.tc : Thread nD τ).loc main_v83) = Layers.tDnw (refArrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, h7, h8, hk⟩ := h c
    refine ⟨h0.trans ?_, h1.trans ?_, h2.trans ?_, h3.trans ?_, h4.trans ?_, h5.trans ?_, h6.trans ?_, h7.trans ?_,
      h8.trans ?_, hk⟩
    all_goals clear * -
    · rfl
    · rfl
    · rfl
    · rfl
    · rfl
    · rfl
    · rfl
    · rfl
    · rfl) (run m ρ)

end Cert.ReferenceIdeal.Value

end
-- ==== Proof.KernelFrame.lean ====
/- The kernel's frame at bits: its text is the idealized program's, whose run is over any values. -/
module

public import proofs.«01_k».proof.Defs
public import proofs.«01_k».proof.Proof.Gen.Kernel
public import proofs.«01_k».proof.Proof.Kept

@[expose] public section

set_option maxRecDepth 16384
set_option maxHeartbeats 4000000

noncomputable section

namespace Cert.Proof

open Idealize.ShloMosaic Idealize.SL.Sem

open Cert.KernelIdeal

/-- The two programs' body tables have one type. -/
theorem tables : Defs Cert.Kernel.nD Cert.Kernel.τ Cert.Kernel.sig (Elt Bits) Cert.Kernel.Λ₀
    = Defs nD τ sig (Elt Bits) Λ₀ := by eq_refl

/-- The kernel's body table, at the idealized program's type. -/
def bodies : Defs nD τ sig (Elt Bits) Λ₀ := cast tables (Cert.Kernel.defs₀ (F := Bits))

theorem bodies_tc : (fun (t : Fin grid0.N) (s : (w : Fin 22) → Fin (win0 w).nbuf) => bodies .tc (0 : Fin 1) (t, s))
    = fun t s => defs₀ (F := Bits) .tc (0 : Fin 1) (t, s) := by eq_refl

theorem bodies_scalar : (fun i => bodies (.scScalar i)) = fun i => defs₀ (F := Bits) (.scScalar i) := by eq_refl

theorem bodies_vector : (fun i j => bodies (.scVector i j)) = fun i j => defs₀ (F := Bits) (.scVector i j) := by eq_refl

/-- The two tables agree, label by label. -/
theorem bodies_eq : bodies = defs₀ (F := Bits) := by
  funext p
  match p with
  | .tc =>
    funext l a
    match l, a with
    | ⟨0, _⟩, (t, s) => exact congrFun (congrFun bodies_tc t) s
  | .scScalar i => exact congrFun bodies_scalar i
  | .scVector i j => exact congrFun (congrFun bodies_vector i) j

/-- The frame of the idealized program's text over the bits, with a body table `d`. -/
def FrameBits (d : Defs nD τ sig (Elt Bits) Λ₀) : Prop :=
  ∀ (m : (ℓ : Loc nD τ sig) → Buf (Elt Bits) ℓ) (ρ : Dev nD → PrngReg), True →
  θ_run (Pipeline.defs (pcfgs (F := Bits)) d) (onTc (τ := τ) (main (F := Bits))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0

/-- The two programs are one text under two names. -/
theorem same_text : Cert.quiescent_Kernel = FrameBits bodies := by eq_refl

theorem frame_kernel : Cert.quiescent_Kernel := by
  rw [same_text, bodies_eq]
  exact fun m ρ _ => Cert.KernelIdeal.Out.run_kept (F := Bits) m ρ

end Cert.Proof

end
-- ==== Proof.Product.lean ====
/- The product that is the gradient of the input projection's weight: the kernel's running sum over the batch's blocks of rows
   is the reference's product, whose sum runs over every row. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.RealMath
public import Idealize.ShloMosaic.Lib.Pipeline.ValueKit
public import Idealize.ShloMosaic.Lib.StableHlo.ReadAt
public import Idealize.ShloMosaic.Lib.MatmulPlain

@[expose] public section

set_option maxRecDepth 16384

noncomputable section

/-! ## The reference -/

namespace Cert.Reference2Ideal.Product

open Idealize.ShloMosaic Idealize.ShloMosaic.TcCoe Idealize.ShloMosaic.Tactic
open Cert.Reference2Ideal Cert.Reference2Ideal.Gen
open scoped BigOperators

variable (x : FVec Ideal S4096x1024 .f32) (w : FVec Ideal S1x1024 .f32) (d : FVec Ideal S4096x1536 .f32)

/-- The rows normed: each over the root of its mean square, times the norm's weight. -/
def normed : FVec Ideal S4096x1024 .f32 :=
  mulf (mulf x (broadcastInDim S4096x1024 ![0, 1] bcast_S4096x1_S4096x1024_0_1 (Host.rsqrt (addf (Host.divf
    (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 w)

/-- The weight's gradient, as the reference computes it. -/
def grad : FVec Ideal S1024x1536 .bf16 :=
  truncf .bf16 (transpose S1024x1536 [1, 0]
    (Host.dotGeneral dot_S4096x1536_S4096x1024_S1536x1024_0_0_1_1_n_n none d (normed x w))
    transposes_S1536x1024_S1024x1536_1_0) bitsLt_bf16_f32

theorem normed_apply (r : Fin 4096) (i : Fin 1024) :
    normed x w (ix2 r i) = x (ix2 r i) * Ideal.rsqrt (Ideal.div (∑ l : Fin 1024, x (ix2 r l) * x (ix2 r l))
      (Ideal.ofBits .f32 0x44800000#32) + Ideal.ofBits .f32 0x358637BD#32) * w (ix2 0 i) := by
  pointwise [normed]

theorem grad_apply (i : Fin 1024) (j : Fin 1536) :
    grad x w d (ix2 i j) = ∑ r : Fin 4096, d (ix2 r j) * normed x w (ix2 r i) := by
  pointwise [grad]

variable (m : (ℓ : Loc nD τ sig) → Buf (Elt Ideal) ℓ) (ρ : Dev nD → PrngReg)

/-- Every weakly fair execution of the reference terminates, its result `grad` of its arguments and those kept. -/
theorem run_grad : θ_run defs (onTc (τ := τ) (main (F := Ideal))) ⟨m, fun _ => 0, ρ⟩ fun r => ∀ c : Dev nD,
      r.2.mem ((c.tc : Thread nD τ).loc main_v16) = grad (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by clear * -; rfl), (h c).2⟩) (Value.run m ρ)

end Cert.Reference2Ideal.Product

/-! ## The kernel -/

namespace Cert.Kernel2Ideal.Product

open Idealize.ShloMosaic Idealize.ShloMosaic.TcCoe Idealize.ShloMosaic.Tactic
open Cert.Kernel2Ideal Cert.Kernel2Ideal.Gen
open Cert.Reference2Ideal.Product (normed normed_apply grad grad_apply)
open scoped BigOperators

theorem zeros : (![0, 0] : Fin 2 → Nat) = fun _ => 0 := funext fun a => by fin_cases a <;> rfl

section
variable {F : FTy → Type} [FloatOps F] (c : Dev nD) (i : grid0.Coords)
  (a2 : Memref sig .tc .vmem S1024x1024 .bf16) (h2 : a2.IsWhole) (a3 : Memref sig .tc .vmem S1024x1536 .bf16) (h3 : a3.IsWhole)
  (a4 : Memref sig .tc .vmem S1024x1536 .bf16) (h4 : a4.IsWhole) (a5 : Memref sig .tc .vmem S1024x1536 .f32) (h5 : a5.IsWhole)
  (x : Vec F S1024x1024 .bf16) (d : Vec F S1024x1536 .bf16) (s : Vec F S1024x1536 .f32)

/-- The first point leaves its blocks' product over zero. -/
theorem first (hc0 : cond0_0 i) (hc1 : ¬cond0_1 i) :
    sout0_A_0 c i a2 h2 a3 h3 a4 h4 a5 h5 hc0 hc1 x d = k0_pay2 k0_pay1 x d := by
  unfold sout0_A_0
  rw [View.read_writes_eq_canon _ _ _ (scover0_A_0 c i a2 h2 a3 h3 a4 h4 a5 h5 hc0 hc1 x d)]
  unfold kernelRun0_A
  dsimp only
  sl_unfold_words
  rw [View.canon_cons_unit_zero (S := S1024x1536) zeros, View.readCov_unit_zero (S := S1024x1536) _ zeros]
  simp only [View.readAt_eq_ld, h2.read_unread, h3.read_unread, View.ld_unit_zero (S := S1024x1536) zeros,
    View.ld_unit_zero (S := S1024x1024) zeros]

/-- A middle point adds its blocks' product to the sum. -/
theorem middle (hc0 : ¬cond0_0 i) (hc1 : ¬cond0_1 i) :
    sout0_B_0 c i a2 h2 a3 h3 a4 h4 a5 h5 hc0 hc1 x d s = k0_pay2 s x d := by
  unfold sout0_B_0
  rw [View.read_writes_eq_canon _ _ _ (scover0_B_0 c i a2 h2 a3 h3 a4 h4 a5 h5 hc0 hc1 x d s)]
  unfold kernelRun0_B
  dsimp only
  rw [View.canon_unit_zero zeros]
  simp only [View.readAt_eq_ld, h2.read_unread, h3.read_unread, h5.read_unread, View.ld_unit_zero (S := S1024x1536) zeros,
    View.ld_unit_zero (S := S1024x1024) zeros]

/-- The last point adds its own and stores the sum, cast. -/
theorem last (hc0 : ¬cond0_0 i) (hc1 : cond0_1 i) :
    out0_C_2 c i a2 h2 a3 h3 a4 h4 a5 h5 hc0 hc1 x d s = k0_pay3 (k0_pay2 s x d) := by
  unfold out0_C_2
  rw [View.read_writes_eq_canon _ _ _ (cover0_C_2 c i a2 h2 a3 h3 a4 h4 a5 h5 hc0 hc1 x d s)]
  unfold kernelRun0_C
  dsimp only
  sl_unfold_words
  rw [View.canon_unit_zero zeros, View.readCov_unit_zero (S := S1024x1536) _ zeros]
  simp only [View.readAt_eq_ld, h2.read_unread, h3.read_unread, h5.read_unread, View.ld_unit_zero (S := S1024x1536) zeros,
    View.ld_unit_zero (S := S1024x1024) zeros]

end

theorem pay1_apply (i : Fin 1024) (j : Fin 1536) : (k0_pay1 : FVec Ideal S1024x1536 .f32) (ix2 i j) = 0 := by
  pointwise [k0_pay1]

theorem pay2_apply (s : FVec Ideal S1024x1536 .f32) (x : FVec Ideal S1024x1024 .bf16) (d : FVec Ideal S1024x1536 .bf16)
    (i : Fin 1024) (j : Fin 1536) :
    k0_pay2 s x d (ix2 i j) = s (ix2 i j) + ∑ r : Fin 1024, x (ix2 i r) * d (ix2 r j) := by
  pointwise [k0_pay2]

theorem pay3_apply (s : FVec Ideal S1024x1536 .f32) (i : Fin 1024) (j : Fin 1536) : (k0_pay3 s : FVec Ideal S1024x1536 .bf16) (ix2 i j) = s (ix2 i j) := by
  pointwise [k0_pay3]

theorem ix_0 : ∀ t : Fin cfg0.N, win0_0.index t = ![0, t.val] := (by decide +kernel : ∀ t : Fin grid0.N, _)
theorem ix_1 : ∀ t : Fin cfg0.N, win0_1.index t = ![t.val, 0] := (by decide +kernel : ∀ t : Fin grid0.N, _)

/-- The grid point as a number below four. -/
abbrev pt (t : Fin cfg0.N) : Fin 4 := ⟨t.val, N_0 ▸ t.isLt⟩
/-- Row `r` of block `t`. -/
abbrev row (t : Fin 4) (r : Fin 1024) : Fin 4096 := ⟨t.val * 1024 + r.val, by omega⟩

variable (m : (ℓ : Loc nD τ sig) → Buf (Elt Ideal) ℓ) (c : Dev nD)

/-- The normed rows of the arguments as launched. -/
def h : FVec Ideal S4096x1024 .f32 := normed (m ((c : Thread nD τ).loc main_arg0)) (m ((c : Thread nD τ).loc main_arg1))
/-- The cotangent as launched. -/
def d : FVec Ideal S4096x1536 .f32 := m ((c : Thread nD τ).loc main_arg2)

theorem V_ht (i : Fin 1024) (r : Fin 4096) : (V m c main_v13 : FVec Ideal S1024x4096 .bf16) (ix2 i r) = h m c (ix2 r i) := by
  unfold V
  after_reads_at
  exact (normed_apply _ _ r i).symm

theorem V_d (r : Fin 4096) (j : Fin 1536) : (V m c main_v14 : FVec Ideal S4096x1536 .bf16) (ix2 r j) = d m c (ix2 r j) := by
  unfold V
  after_reads_at
  rfl

theorem blk_h (t : Fin cfg0.N) (i r : Fin 1024) :
    (iblk m c 0 t : FVec Ideal S1024x1024 .bf16) (ix2 i r) = h m c (ix2 (row (pt t) r) i) := by
  rw [← V_ht]
  show V m c main_v13 _ = V m c main_v13 _
  blk_ext [ix_0]

theorem blk_d (t : Fin cfg0.N) (r : Fin 1024) (j : Fin 1536) :
    (iblk m c 1 t : FVec Ideal S1024x1536 .bf16) (ix2 r j) = d m c (ix2 (row (pt t) r) j) := by
  rw [← V_d]
  show V m c main_v14 _ = V m c main_v14 _
  blk_ext [ix_1]

/-- What block `t` gives the sum. -/
def part (i : Fin 1024) (j : Fin 1536) (t : Fin 4) : EReal :=
  ∑ r : Fin 1024, h m c (ix2 (row t r) i) * d m c (ix2 (row t r) j)

/-- A point's step at an index. -/
theorem step_apply (s : FVec Ideal S1024x1536 .f32) (t : Fin cfg0.N) (i : Fin 1024) (j : Fin 1536) :
    k0_pay2 s (iblk m c 0 t) (iblk m c 1 t) (ix2 i j) = s (ix2 i j) + part m c i j (pt t) := by
  rw [pay2_apply]
  unfold part
  congr 1
  exact Finset.sum_congr rfl fun r _ => by rw [blk_h, blk_d]

theorem lt4 {n : ℕ} (hn : n < 4) : n < cfg0.N := lt_of_lt_of_eq hn N_0.symm

theorem after_first (i : Fin 1024) (j : Fin 1536) :
    (outsAt0 m c 0 (lt4 (by decide))).2 (ix2 i j) = part m c i j 0 := by
  rw [outsAt0_A m c ⟨0, lt4 (by decide)⟩ (by decide) (by decide)]
  dsimp only
  rw [first, step_apply, pay1_apply, zero_add]
  rfl

theorem after_middle (n : ℕ) (hn : n + 1 < cfg0.N) (h3 : n + 1 < 3) (i : Fin 1024) (j : Fin 1536) :
    (outsAt0 m c (n + 1) hn).2 (ix2 i j)
      = (outsAt0 m c n (Nat.lt_of_succ_lt hn)).2 (ix2 i j) + part m c i j ⟨n + 1, by omega⟩ := by
  rw [outsAt0_B m c ⟨n + 1, hn⟩ (by dsimp only; omega) (by dsimp only; omega)]
  dsimp only
  rw [middle, step_apply]
  rfl

theorem after_last (i : Fin 1024) (j : Fin 1536) :
    (outsAt0 m c 3 (lt4 (by decide))).1 (ix2 i j)
      = (outsAt0 m c 2 (lt4 (by decide))).2 (ix2 i j) + part m c i j 3 := by
  rw [outsAt0_C m c ⟨3, lt4 (by decide)⟩ (by decide) (by decide)]
  dsimp only
  rw [last, pay3_apply, step_apply]
  rfl

/-- The array the kernel leaves is the reference's product. -/
theorem result (c : Dev nD) : Value.G2 m c = grad (m ((c : Thread nD τ).loc main_arg0)) (m ((c : Thread nD τ).loc main_arg1))
    (m ((c : Thread nD τ).loc main_arg2)) := by
  rw [Value.G2_last, ← Value.outsAt0_sweep m c 3 (lt4 (by decide))]
  funext y
  obtain ⟨i, j, rfl⟩ : ∃ (i : Fin 1024) (j : Fin 1536), y = ix2 i j := ⟨y 0, y 1, by funext a; fin_cases a <;> rfl⟩
  rw [grad_apply, after_last, after_middle m c 1 _ (by decide), after_middle m c 0 _ (by decide), after_first,
    Fin.sum_univ_tiles 4 1024 rfl, Fin.sum_univ_four]
  simp only [part, mul_comm (h m c _)]
  rfl

/-- Every weakly fair execution of the kernel terminates, its result the reference's and its arguments kept. -/
theorem run_grad (ρ : Dev nD → PrngReg) :
    θ_run defs (onTc (τ := τ) (main (F := Ideal))) ⟨m, fun _ => 0, ρ⟩ fun r => ∀ c : Dev nD,
      r.2.mem ((c : Thread nD τ).loc main_v15) = grad (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (result m c), (hr c).2⟩) (Value.run m ρ)

end Cert.Kernel2Ideal.Product

/-! ## The claims -/

namespace Cert.Proof

open Idealize.ShloMosaic Idealize.SL.Sem

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

/-- The reference's frame: its run's kept arguments; it declares no semaphore. -/
theorem frame_reference2 : Cert.quiescent_Reference2Ideal := fun m ρ _ =>
  (θ_run _ _ _).mono (fun r h => ⟨fun c => (h c).2, sem_eq_zero_of_no_sems (by decide) r.2⟩)
    (Cert.Reference2Ideal.Value.run m ρ)

/-- The kernel's result is the reference's. -/
theorem values2 : Cert.algebraic_Kernel2Ideal_Reference2Ideal := fun m ρ m' ρ' _ hag =>
  ⟨fun c => Cert.Reference2Ideal.Product.grad (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    Cert.Kernel2Ideal.Product.run_grad m ρ,
    (θ_run _ _ _).mono (fun _ h c => by
      obtain ⟨h0, hk⟩ := h c
      obtain ⟨e0, e1, e2⟩ := hag c
      rw [e0, e1, e2] at h0
      exact ⟨h0, hk⟩) (Cert.Reference2Ideal.Product.run_grad m' ρ')⟩

end Cert.Proof

end
-- ==== Proof.RowNorm.lean ====
/- The gradient of a normed row of any length: the kernel's projection off the normed row against the gradient of the mean
   square, taken twice. -/
module

public import proofs.«01_k».proof.Proof.RealMath

@[expose] public section

noncomputable section

namespace Cert.RealMath

open Idealize.ShloMosaic
open scoped BigOperators

/-- The mean square of a row of reals, over `c` lanes, and epsilon: a positive real. -/
theorem mean_sq_pos {n : ℕ} {o : Fin n → EReal} (ho : ∀ l, IsR (o l)) {C : EReal} {c : ℝ} (hc : 0 < c) (hC : C = (c : EReal)) :
    ∃ v : ℝ, 0 < v ∧ Ideal.div (∑ l, o l * o l) C + Ideal.ofBits .f32 897988541#32 = (v : EReal) := by
  choose f hf using ho
  obtain ⟨e, he, hE⟩ := cEps
  refine ⟨(∑ l, f l * f l) * (1 / c) + e, ?_, ?_⟩
  · have : 0 ≤ ∑ l, f l * f l := Finset.sum_nonneg fun l _ => mul_self_nonneg _
    positivity
  · rw [hC, hE, Ideal.div_coe hc.ne', EReal.coe_add, EReal.coe_mul, coe_sum]
    simp only [hf, EReal.coe_mul]

theorem row_eq {n : ℕ} {o g : Fin n → EReal} (ho : ∀ l, IsR (o l)) (hg : ∀ l, IsR (g l)) {M C : EReal} {v c : ℝ} (hv : 0 < v)
    (hM : M = (v : EReal)) (hc : 0 < c) (hC : C = (c : EReal)) (j : Fin n) :
    Ideal.rsqrt M * (g j - o j * Ideal.rsqrt M * Ideal.div (∑ x, g x * (o x * Ideal.rsqrt M)) C)
      = g j * Ideal.rsqrt M
        + o j * Ideal.div ((∑ x, o x * g x) * (Ideal.ofBits .f32 3204448256#32 * Ideal.div (Ideal.rsqrt M) M)) C
        + Ideal.div ((∑ x, o x * g x) * (Ideal.ofBits .f32 3204448256#32 * Ideal.div (Ideal.rsqrt M) M)) C * o j := by
  choose a ha using ho
  choose b hb using hg
  have hsq : v = Real.sqrt v * Real.sqrt v := (Real.mul_self_sqrt hv.le).symm
  rw [hM, Ideal.rsqrt_coe, if_neg (not_lt.2 hv.le), if_neg hv.ne', hC, cNegHalf]
  simp only [ha, hb, Ideal.div_coe hc.ne', Ideal.div_coe hv.ne']
  simp only [← EReal.coe_mul, ← coe_sum, ← EReal.coe_sub, ← EReal.coe_add]
  congr 1
  have h1 : (∑ x, b x * (a x * (Real.sqrt v)⁻¹)) = (∑ x, a x * b x) * (Real.sqrt v)⁻¹ := by
    rw [Finset.sum_mul]; exact Finset.sum_congr rfl fun x _ => by ring
  rw [h1]
  generalize (∑ x, a x * b x) = S
  have h2 : 1 / v = (Real.sqrt v)⁻¹ * (Real.sqrt v)⁻¹ := by
    rw [← mul_inv, ← hsq, one_div]
  rw [h2]
  ring

end Cert.RealMath

end
-- ==== Proof.InprojReference.lean ====
/- The backward pass of the input projection and its norm, as the reference computes it, at an index. -/
module

public import proofs.«01_k».proof.Proof.Gen.Reference3Ideal.Run
public import Idealize.ShloMosaic.Lib.StableHlo.ReadAt
public import Idealize.ShloMosaic.Lib.Pointwise

@[expose] public section

set_option maxRecDepth 16384

noncomputable section

namespace Cert.Reference3Ideal.Inproj

open Idealize.ShloMosaic Idealize.ShloMosaic.TcCoe Idealize.ShloMosaic.Tactic
open Cert.Reference3Ideal Cert.Reference3Ideal.Gen
open scoped BigOperators

/-- The arguments: the rows, the norm's weight, the projection's weight, and the cotangents of the rows and of the seven
    sections of the projection. -/
structure Arrs where
  x : FVec Ideal S4096x1024 .f32
  nw : FVec Ideal S1x1024 .f32
  w : FVec Ideal S1024x4224 .f32
  dy : FVec Ideal S4096x1024 .f32
  d0 : FVec Ideal S4096x1536 .f32
  d1 : FVec Ideal S4096x512 .f32
  d2 : FVec Ideal S4096x512 .f32
  d3 : FVec Ideal S4096x512 .f32
  d4 : FVec Ideal S4096x512 .f32
  d5 : FVec Ideal S4096x512 .f32
  d6 : FVec Ideal S4096x128 .f32

variable (A : Arrs)

/-- The cotangent of the normed rows: the sections' cotangents times the weight's columns of each. -/
def dh : FVec Ideal S4096x1024 .f32 :=
  addf (addf (addf (addf (addf (addf
    (Host.dotGeneral dot_S4096x128_S1024x128_S4096x1024_1_1_0_0_n_n none A.d6
      (extractStridedSlice S1024x128 ![0, 4096] A.w slices_S1024x4224_S1024x128_0_4096))
    (Host.dotGeneral dot_S4096x512_S1024x512_S4096x1024_1_1_0_0_n_n none A.d5
      (extractStridedSlice S1024x512 ![0, 3584] A.w slices_S1024x4224_S1024x512_0_3584)))
    (Host.dotGeneral dot_S4096x512_S1024x512_S4096x1024_1_1_0_0_n_n none A.d4
      (extractStridedSlice S1024x512 ![0, 3072] A.w slices_S1024x4224_S1024x512_0_3072)))
    (Host.dotGeneral dot_S4096x512_S1024x512_S4096x1024_1_1_0_0_n_n none A.d3
      (extractStridedSlice S1024x512 ![0, 2560] A.w slices_S1024x4224_S1024x512_0_2560)))
    (Host.dotGeneral dot_S4096x512_S1024x512_S4096x1024_1_1_0_0_n_n none A.d2
      (extractStridedSlice S1024x512 ![0, 2048] A.w slices_S1024x4224_S1024x512_0_2048)))
    (Host.dotGeneral dot_S4096x512_S1024x512_S4096x1024_1_1_0_0_n_n none A.d1
      (extractStridedSlice S1024x512 ![0, 1536] A.w slices_S1024x4224_S1024x512_0_1536)))
    (Host.dotGeneral dot_S4096x1536_S1024x1536_S4096x1024_1_1_0_0_n_n none A.d0
      (extractStridedSlice S1024x1536 ![0, 0] A.w slices_S1024x4224_S1024x1536_0_0))

/-- The rows' mean squares and epsilon. -/
def ms : FVec Ideal S4096x1 .f32 :=
  addf (Host.divf (broadcastInDim S4096x1 ![0] bcast_S4096_S4096x1_0
      (Host.reduceAdd (mulf A.x A.x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- The cotangent times the norm's weight. -/
def gh : FVec Ideal S4096x1024 .f32 :=
  mulf (dh A) (broadcastInDim S4096x1024 ![0, 1] bcast_S1x1024_S4096x1024_0_1 A.nw)

/-- What the mean square's gradient gives each lane of a row, over the lane. -/
def share : FVec Ideal S4096 .f32 :=
  Host.reduceAdd (Host.divf (mulf (shapeCast _ (Host.reduceAdd (mulf A.x (gh A)) (constant S_ .f32 0x00000000#32)
      reducesTo_S4096x1024_S4096_d1 h_S_) shapeCasts_S4096_S4096x1)
    (mulf (broadcastInDim S4096x1 ![] bcast_S_S4096x1 (constant S_ .f32 0xBF000000#32)) (Host.divf (Host.rsqrt (ms A)) (ms A))))
    (broadcastInDim S4096x1 ![] bcast_S_S4096x1 (constant S_ .f32 0x44800000#32)))
    (constant S_ .f32 0x00000000#32) reducesTo_S4096x1_S4096_d1 h_S_

/-- The gradient of the rows. -/
def gradX : FVec Ideal S4096x1024 .f32 :=
  addf (addf (addf A.dy (mulf (gh A) (broadcastInDim S4096x1024 ![0, 1] bcast_S4096x1_S4096x1024_0_1 (Host.rsqrt (ms A)))))
    (mulf A.x (broadcastInDim S4096x1024 ![0] bcast_S4096_S4096x1024_0 (share A))))
    (mulf (broadcastInDim S4096x1024 ![0] bcast_S4096_S4096x1024_0 (share A)) A.x)

/-- The gradient of the norm's weight, eight times over. -/
def gradW : FVec Ideal S8x1024 .f32 :=
  broadcastInDim S8x1024 ![0, 1] bcast_S1x1024_S8x1024_0_1 (shapeCast _ (Host.reduceAdd
    (mulf (mulf A.x (broadcastInDim S4096x1024 ![0, 1] bcast_S4096x1_S4096x1024_0_1 (Host.rsqrt (ms A)))) (dh A))
    (constant S_ .f32 0x00000000#32) reducesTo_S4096x1024_S1024_d0 h_S_) shapeCasts_S1024_S1x1024)

/-- The last section's cotangent summed over the rows, eight times over. -/
def sumD : FVec Ideal S8x128 .f32 :=
  broadcastInDim S8x128 ![0, 1] bcast_S1x128_S8x128_0_1 (broadcastInDim S1x128 ![1] bcast_S128_S1x128_1
    (Host.reduceAdd A.d6 (constant S_ .f32 0x00000000#32) reducesTo_S4096x128_S128_d0 h_S_))

/-- A section's columns of the weight start at `lo`. -/
abbrev col (lo n : ℕ) (h : lo + n ≤ 4224) (k : Fin n) : Fin 4224 := ⟨lo + k.val, by omega⟩

theorem dh_apply (r : Fin 4096) (i : Fin 1024) :
    dh A (ix2 r i) = (∑ k : Fin 128, A.d6 (ix2 r k) * A.w (ix2 i (col 4096 128 (by decide) k)))
      + (∑ k : Fin 512, A.d5 (ix2 r k) * A.w (ix2 i (col 3584 512 (by decide) k)))
      + (∑ k : Fin 512, A.d4 (ix2 r k) * A.w (ix2 i (col 3072 512 (by decide) k)))
      + (∑ k : Fin 512, A.d3 (ix2 r k) * A.w (ix2 i (col 2560 512 (by decide) k)))
      + (∑ k : Fin 512, A.d2 (ix2 r k) * A.w (ix2 i (col 2048 512 (by decide) k)))
      + (∑ k : Fin 512, A.d1 (ix2 r k) * A.w (ix2 i (col 1536 512 (by decide) k)))
      + (∑ k : Fin 1536, A.d0 (ix2 r k) * A.w (ix2 i (col 0 1536 (by decide) k))) := by
  pointwise [dh]
  simp only [col, Nat.zero_add]

theorem ms_apply (r : Fin 4096) : ms A (ix2 r 0) = Ideal.div (∑ l : Fin 1024, A.x (ix2 r l) * A.x (ix2 r l))
    (Ideal.ofBits .f32 0x44800000#32) + Ideal.ofBits .f32 0x358637BD#32 := by
  pointwise [ms]

theorem gh_apply (r : Fin 4096) (i : Fin 1024) : gh A (ix2 r i) = dh A (ix2 r i) * A.nw (ix2 0 i) := by
  pointwise [gh]

theorem share_apply (r : Fin 4096) : share A (ix1 r) = Ideal.div ((∑ l : Fin 1024, A.x (ix2 r l) * gh A (ix2 r l))
    * (Ideal.ofBits .f32 0xBF000000#32 * Ideal.div (Ideal.rsqrt (ms A (ix2 r 0))) (ms A (ix2 r 0))))
      (Ideal.ofBits .f32 0x44800000#32) := by
  pointwise [share]
  exact Fin.sum_univ_one _

theorem gradX_apply (r : Fin 4096) (i : Fin 1024) :
    gradX A (ix2 r i) = A.dy (ix2 r i) + gh A (ix2 r i) * Ideal.rsqrt (ms A (ix2 r 0)) + A.x (ix2 r i) * share A (ix1 r)
      + share A (ix1 r) * A.x (ix2 r i) := by
  pointwise [gradX]

theorem gradW_apply (e : Fin 8) (i : Fin 1024) :
    gradW A (ix2 e i) = ∑ r : Fin 4096, A.x (ix2 r i) * Ideal.rsqrt (ms A (ix2 r 0)) * dh A (ix2 r i) := by
  pointwise [gradW]

theorem sumD_apply (e : Fin 8) (j : Fin 128) : sumD A (ix2 e j) = ∑ r : Fin 4096, A.d6 (ix2 r j) := by
  pointwise [sumD]

variable (m : (ℓ : Loc nD τ sig) → Buf (Elt Ideal) ℓ) (ρ : Dev nD → PrngReg)

/-- The arguments as launched. -/
def arrs (c : Dev nD) : Arrs :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-- Every weakly fair execution of the reference terminates with these results and its arguments kept. -/
theorem run_arrs : θ_run defs (onTc (τ := τ) (main (F := Ideal))) ⟨m, fun _ => 0, ρ⟩ fun r => ∀ c : Dev nD,
      r.2.mem ((c.tc : Thread nD τ).loc main_v61) = gradX (arrs m c)
      ∧ r.2.mem ((c.tc : Thread nD τ).loc main_v62) = gradW (arrs m c)
      ∧ r.2.mem ((c.tc : Thread nD τ).loc main_v65) = sumD (arrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (by clear * -; rfl), (h c).2.1.trans (by clear * -; rfl),
    (h c).2.2.1.trans (by clear * -; rfl), (h c).2.2.2⟩) (Value.run m ρ)

end Cert.Reference3Ideal.Inproj

end
-- ==== Proof.InprojPoint.lean ====
/- What one grid point of the input projection's backward pass leaves in each of its results, from the blocks it reads. -/
module

public import proofs.«01_k».proof.Proof.Gen.Kernel3Ideal.Frame
public import Idealize.ShloMosaic.Lib.Pipeline.ValueKit
public import Idealize.ShloMosaic.Lib.MatmulPlain
public import Idealize.ShloMosaic.Lib.Pointwise

@[expose] public section

set_option maxRecDepth 16384

noncomputable section

namespace Cert.Kernel3Ideal.Inproj

open Idealize.ShloMosaic Idealize.ShloMosaic.TcCoe Idealize.ShloMosaic.Tactic
open Cert.Kernel3Ideal Cert.Kernel3Ideal.Gen
open scoped BigOperators

theorem zeros : (![0, 0] : Fin 2 → Nat) = fun _ => 0 := funext fun a => by fin_cases a <;> rfl

section
variable {F : FTy → Type} [FloatOps F]
  (x0 : Vec F S256x1024 .f32) (x1 : Vec F S1x1024 .f32) (x2 : Vec F S4224x1024 .bf16) (x3 : Vec F S256x1024 .f32)
  (x4 : Vec F S256x1536 .bf16) (x5 x6 x7 x8 x9 : Vec F S256x512 .bf16) (x10 : Vec F S256x128 .f32)
  (s : Vec F S8x1024 .f32) (u : Vec F S8x128 .f32)

/-- The rows of the transposed weight that belong to the first section, to one of the next five, and to the last. -/
def sec0 : Vec F S1536x1024 .bf16 :=
  View.ld x2 (Rect.unit (s := S4224x1024) ![0, 0] S1536x1024.size inb_S4224x1024_S1536x1024_0_0)
def sec (lo : ℕ) (h : ∀ a, (![lo, 0] : Fin 2 → ℕ) a + S512x1024.size a ≤ S4224x1024.size a) : Vec F S512x1024 .bf16 :=
  View.ld x2 (Rect.unit (s := S4224x1024) ![lo, 0] S512x1024.size h)
def sec6 : Vec F S128x1024 .bf16 :=
  View.ld x2 (Rect.unit (s := S4224x1024) ![4096, 0] S128x1024.size inb_S4224x1024_S128x1024_4096_0)

/-- The first four sections' products, summed. -/
def front : FVec F S256x1024 .f32 :=
  k0_pay6 x4 (sec0 x2) x5 (sec x2 1536 inb_S4224x1024_S512x1024_1536_0) x6 (sec x2 2048 inb_S4224x1024_S512x1024_2048_0)
    x7 (sec x2 2560 inb_S4224x1024_S512x1024_2560_0)

/-- The normed rows' cotangent. -/
def dhB : FVec F S256x1024 .f32 :=
  k0_pay8 (front x2 x4 x5 x6 x7) (k0_pay7 x8) (sec x2 3072 inb_S4224x1024_S512x1024_3072_0) x9
    (sec x2 3584 inb_S4224x1024_S512x1024_3584_0) x10 (sec6 x2)

/-- The rows' gradient. -/
def dxB : FVec F S256x1024 .f32 :=
  k0_pay1 (k0_pay11 (front x2 x4 x5 x6 x7) (k0_pay7 x8) (sec x2 3072 inb_S4224x1024_S512x1024_3072_0) x9
    (sec x2 3584 inb_S4224x1024_S512x1024_3584_0) x10 (sec6 x2) x0 x1) x3

/-- The running sum for the norm's weight, with this point's rows. -/
def dnwB : FVec F S8x1024 .f32 := k0_pay2 (dhB x2 x4 x5 x6 x7 x8 x9 x10) (k0_pay10 x0) s

variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S4224x1024 .bf16) (h3 : a3.IsWhole) (a4 : Memref sig .tc .vmem S256x1024 .f32) (h4 : a4.IsWhole)
  (a5 : Memref sig .tc .vmem S256x1536 .bf16) (h5 : a5.IsWhole) (a6 : Memref sig .tc .vmem S256x512 .bf16) (h6 : a6.IsWhole)
  (a7 : Memref sig .tc .vmem S256x512 .bf16) (h7 : a7.IsWhole) (a8 : Memref sig .tc .vmem S256x512 .bf16) (h8 : a8.IsWhole)
  (a9 : Memref sig .tc .vmem S256x512 .bf16) (h9 : a9.IsWhole) (a10 : Memref sig .tc .vmem S256x512 .bf16) (h10 : a10.IsWhole)
  (a11 : Memref sig .tc .vmem S256x128 .f32) (h11 : a11.IsWhole) (a12 : Memref sig .tc .vmem S256x1024 .f32) (h12 : a12.IsWhole)
  (a13 : Memref sig .tc .vmem S8x1024 .f32) (h13 : a13.IsWhole) (a14 : Memref sig .tc .vmem S8x128 .f32) (h14 : a14.IsWhole)

theorem first_dx (hc0 : cond0_0 i) :
    out0_A_11 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 = dxB x0 x1 x2 x3 x4 x5 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11
    a12 h12 a13 h13 a14 h14 hc0 x0 x1 x2 x3 x4 x5 x6 x7 x8 x9 x10)]
  unfold kernelRun0_A
  dsimp only
  sl_unfold_words
  rw [View.canon_unit_zero zeros]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) zeros,
    View.ld_unit_zero (S := S1x1024) zeros, View.ld_unit_zero (S := S256x1536) zeros, View.ld_unit_zero (S := S256x512) zeros,
    View.ld_unit_zero (S := S256x128) zeros]
  rfl

theorem rest_dx (hc0 : ¬cond0_0 i) :
    out0_B_11 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 s u = dxB x0 x1 x2 x3 x4 x5 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11
    a12 h12 a13 h13 a14 h14 hc0 x0 x1 x2 x3 x4 x5 x6 x7 x8 x9 x10 s u)]
  unfold kernelRun0_B
  dsimp only
  sl_unfold_words
  rw [View.canon_unit_zero zeros]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) zeros,
    View.ld_unit_zero (S := S1x1024) zeros, View.ld_unit_zero (S := S256x1536) zeros, View.ld_unit_zero (S := S256x512) zeros,
    View.ld_unit_zero (S := S256x128) zeros]
  rfl

theorem first_nw (hc0 : cond0_0 i) :
    out0_A_12 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 = dnwB x0 x2 x4 x5 x6 x7 x8 x9 x10 k0_pay4 := by
  unfold out0_A_12
  rw [View.read_writes_eq_canon _ _ _ (cover0_A_12 c i a1 h1 a2 h2 a3 h3 a4 h4 a5 h5 a6 h6 a7 h7 a8 h8 a9 h9 a10 h10 a11 h11
    a12 h12 a13 h13 a14 h14 hc0 x0 x1 x2 x3 x4 x5 x6 x7 x8 x9 x10)]
  unfold kernelRun0_A
  dsimp only
  sl_unfold_words
  rw [View.canon_cons_unit_zero (S := S8x1024) zeros, View.readCov_unit_zero (S := S8x1024) _ zeros]
  simp only [View.readAt_eq_ld, h1.read_unread, h3.read_unread, h5.read_unread, h6.read_unread,
    h7.read_unread, h8.read_unread, h9.read_unread, h10.read_unread, h11.read_unread, View.ld_unit_zero (S := S256x1024) zeros,
    View.ld_unit_zero (S := S256x1536) zeros, View.ld_unit_zero (S := S256x512) zeros, View.ld_unit_zero (S := S256x128) zeros]
  rfl

theorem rest_nw (hc0 : ¬cond0_0 i) :
    out0_B_12 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 s u = dnwB x0 x2 x4 x5 x6 x7 x8 x9 x10 s := by
  unfold out0_B_12
  rw [View.read_writes_eq_canon _ _ _ (cover0_B_12 c i a1 h1 a2 h2 a3 h3 a4 h4 a5 h5 a6 h6 a7 h7 a8 h8 a9 h9 a10 h10 a11 h11
    a12 h12 a13 h13 a14 h14 hc0 x0 x1 x2 x3 x4 x5 x6 x7 x8 x9 x10 s u)]
  unfold kernelRun0_B
  dsimp only
  sl_unfold_words
  rw [View.canon_unit_zero zeros]
  simp only [View.readAt_eq_ld, h1.read_unread, h3.read_unread, h5.read_unread, h6.read_unread, h13.read_unread,
    h7.read_unread, h8.read_unread, h9.read_unread, h10.read_unread, h11.read_unread, View.ld_unit_zero (S := S256x1024) zeros,
    View.ld_unit_zero (S := S256x1536) zeros, View.ld_unit_zero (S := S256x512) zeros, View.ld_unit_zero (S := S256x128) zeros,
    View.ld_unit_zero (S := S8x1024) zeros]
  rfl

theorem first_sum (hc0 : cond0_0 i) :
    out0_A_13 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 = k0_pay3 k0_pay5 x10 := by
  unfold out0_A_13
  rw [View.read_writes_eq_canon _ _ _ (cover0_A_13 c i a1 h1 a2 h2 a3 h3 a4 h4 a5 h5 a6 h6 a7 h7 a8 h8 a9 h9 a10 h10 a11 h11
    a12 h12 a13 h13 a14 h14 hc0 x0 x1 x2 x3 x4 x5 x6 x7 x8 x9 x10)]
  unfold kernelRun0_A
  dsimp only
  sl_unfold_words
  rw [View.canon_cons_unit_zero (S := S8x128) zeros, View.readCov_unit_zero (S := S8x128) _ zeros]
  simp only [View.readAt_eq_ld, h11.read_unread, View.ld_unit_zero (S := S256x128) zeros]

theorem rest_sum (hc0 : ¬cond0_0 i) :
    out0_B_13 c i a1 h1 a2 h2 a3 h3 a4 h4 a5 h5 a6 h6 a7 h7 a8 h8 a9 h9 a10 h10 a11 h11 a12 h12 a13 h13 a14 h14 hc0
      x0 x1 x2 x3 x4 x5 x6 x7 x8 x9 x10 s u = k0_pay3 u x10 := by
  unfold out0_B_13
  rw [View.read_writes_eq_canon _ _ _ (cover0_B_13 c i a1 h1 a2 h2 a3 h3 a4 h4 a5 h5 a6 h6 a7 h7 a8 h8 a9 h9 a10 h10 a11 h11
    a12 h12 a13 h13 a14 h14 hc0 x0 x1 x2 x3 x4 x5 x6 x7 x8 x9 x10 s u)]
  unfold kernelRun0_B
  dsimp only
  sl_unfold_words
  rw [View.canon_unit_zero zeros]
  simp only [View.readAt_eq_ld, h11.read_unread, h14.read_unread, View.ld_unit_zero (S := S256x128) zeros,
    View.ld_unit_zero (S := S8x128) zeros]

theorem sec0_apply (k : Fin 1536) (j : Fin 1024) : sec0 x2 (ix2 k j) = x2 (ix2 ⟨0 + k.val, by omega⟩ j) := by
  refine congrArg x2 (funext fun a => Fin.ext ?_)
  fin_cases a
  · show 0 + 1 * k.val = 0 + k.val; omega
  · show 0 + 1 * j.val = j.val; omega

theorem sec_apply (lo : ℕ) (h) (hl : lo + 512 ≤ 4224) (k : Fin 512) (j : Fin 1024) :
    sec x2 lo h (ix2 k j) = x2 (ix2 ⟨lo + k.val, by omega⟩ j) := by
  refine congrArg x2 (funext fun a => Fin.ext ?_)
  fin_cases a
  · show lo + 1 * k.val = lo + k.val; omega
  · show 0 + 1 * j.val = j.val; omega

theorem sec6_apply (k : Fin 128) (j : Fin 1024) : sec6 x2 (ix2 k j) = x2 (ix2 ⟨4096 + k.val, by omega⟩ j) := by
  refine congrArg x2 (funext fun a => Fin.ext ?_)
  fin_cases a
  · show 4096 + 1 * k.val = 4096 + k.val; omega
  · show 0 + 1 * j.val = j.val; omega

end

variable (x0 : FVec Ideal S256x1024 .f32) (x1 : FVec Ideal S1x1024 .f32) (x2 : FVec Ideal S4224x1024 .bf16)
  (x3 : FVec Ideal S256x1024 .f32) (x4 : FVec Ideal S256x1536 .bf16) (x5 x6 x7 x8 x9 : FVec Ideal S256x512 .bf16)
  (x10 : FVec Ideal S256x128 .f32) (s : FVec Ideal S8x1024 .f32) (u : FVec Ideal S8x128 .f32)

theorem front_apply (r : Fin 256) (j : Fin 1024) :
    front (F := Ideal) x2 x4 x5 x6 x7 (ix2 r j) = (∑ k : Fin 1536, x4 (ix2 r k) * sec0 (F := Ideal) x2 (ix2 k j))
      + (∑ k : Fin 512, x5 (ix2 r k) * sec (F := Ideal) x2 1536 inb_S4224x1024_S512x1024_1536_0 (ix2 k j))
      + (∑ k : Fin 512, x6 (ix2 r k) * sec (F := Ideal) x2 2048 inb_S4224x1024_S512x1024_2048_0 (ix2 k j))
      + (∑ k : Fin 512, x7 (ix2 r k) * sec (F := Ideal) x2 2560 inb_S4224x1024_S512x1024_2560_0 (ix2 k j)) := by
  pointwise [front, k0_pay6]

theorem dhB_apply (r : Fin 256) (j : Fin 1024) :
    dhB (F := Ideal) x2 x4 x5 x6 x7 x8 x9 x10 (ix2 r j) = front (F := Ideal) x2 x4 x5 x6 x7 (ix2 r j)
      + (∑ k : Fin 512, x8 (ix2 r k) * sec (F := Ideal) x2 3072 inb_S4224x1024_S512x1024_3072_0 (ix2 k j))
      + (∑ k : Fin 512, x9 (ix2 r k) * sec (F := Ideal) x2 3584 inb_S4224x1024_S512x1024_3584_0 (ix2 k j))
      + (∑ k : Fin 128, x10 (ix2 r k) * sec6 (F := Ideal) x2 (ix2 k j)) := by
  pointwise [dhB, k0_pay7, k0_pay8]

/-- The mean square of row `r` and epsilon. -/
def msB (r : Fin 256) : EReal := Ideal.div (∑ l : Fin 1024, x0 (ix2 r l) * x0 (ix2 r l)) (Ideal.ofBits .f32 0x44800000#32)
  + Ideal.ofBits .f32 0x358637BD#32

theorem rsB_apply (r : Fin 256) : k0_pay9 (F := Ideal) x0 (ix2 r 0) = Ideal.rsqrt (msB x0 r) := by
  pointwise [k0_pay9, msB]

theorem xhB_apply (r : Fin 256) (j : Fin 1024) : k0_pay10 (F := Ideal) x0 (ix2 r j) = x0 (ix2 r j) * Ideal.rsqrt (msB x0 r) := by
  rw [← rsB_apply]
  pointwise [k0_pay10]

theorem dxB_apply (r : Fin 256) (j : Fin 1024) :
    dxB x0 x1 x2 x3 x4 x5 x6 x7 x8 x9 x10 (ix2 r j) =
      k0_pay9 (F := Ideal) x0 (ix2 r 0) * (dhB x2 x4 x5 x6 x7 x8 x9 x10 (ix2 r j) * x1 (ix2 0 j) - k0_pay10 (F := Ideal) x0 (ix2 r j)
        * Ideal.div (∑ l : Fin 1024, dhB (F := Ideal) x2 x4 x5 x6 x7 x8 x9 x10 (ix2 r l) * x1 (ix2 0 l) * k0_pay10 (F := Ideal) x0 (ix2 r l))
          (Ideal.ofBits .f32 0x44800000#32)) + x3 (ix2 r j) := by
  have e : dxB (F := Ideal) x0 x1 x2 x3 x4 x5 x6 x7 x8 x9 x10 = k0_pay1 (k0_pay11 (front x2 x4 x5 x6 x7) (k0_pay7 x8)
    (sec x2 3072 inb_S4224x1024_S512x1024_3072_0) x9 (sec x2 3584 inb_S4224x1024_S512x1024_3584_0) x10 (sec6 x2) x0 x1) x3 := rfl
  have e' : dhB (F := Ideal) x2 x4 x5 x6 x7 x8 x9 x10 = k0_pay8 (front x2 x4 x5 x6 x7) (k0_pay7 x8)
    (sec x2 3072 inb_S4224x1024_S512x1024_3072_0) x9 (sec x2 3584 inb_S4224x1024_S512x1024_3584_0) x10 (sec6 x2) := rfl
  rw [e, e']
  pointwise [k0_pay1, k0_pay11]

theorem dnwB_apply (e : Fin 8) (j : Fin 1024) :
    dnwB x0 x2 x4 x5 x6 x7 x8 x9 x10 s (ix2 e j) = s (ix2 e j)
      + ∑ r : Fin 256, dhB (F := Ideal) x2 x4 x5 x6 x7 x8 x9 x10 (ix2 r j) * k0_pay10 (F := Ideal) x0 (ix2 r j) := by
  pointwise [dnwB, k0_pay2]

theorem sumB_apply (e : Fin 8) (j : Fin 128) : k0_pay3 u x10 (ix2 e j) = u (ix2 e j) + ∑ r : Fin 256, x10 (ix2 r j) := by
  pointwise [k0_pay3]

theorem zeroW_apply (e : Fin 8) (j : Fin 1024) : (k0_pay4 : FVec Ideal S8x1024 .f32) (ix2 e j) = 0 := by
  pointwise [k0_pay4]

theorem zeroD_apply (e : Fin 8) (j : Fin 128) : (k0_pay5 : FVec Ideal S8x128 .f32) (ix2 e j) = 0 := by
  pointwise [k0_pay5]

end Cert.Kernel3Ideal.Inproj

end
-- ==== Proof.Inproj.lean ====
/- The backward pass of the input projection and its norm: the kernel's three results are the reference's. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.RowNorm
public import proofs.«01_k».proof.Proof.Finiteness
public import proofs.«01_k».proof.Proof.InprojReference
public import proofs.«01_k».proof.Proof.InprojPoint
public import Idealize.ShloMosaic.Lib.Pipeline.ValueKit
public import Idealize.ShloMosaic.Lib.StableHlo.ReadAt

@[expose] public section

set_option maxRecDepth 16384

noncomputable section

namespace Cert.Kernel3Ideal.Inproj

open Idealize.ShloMosaic Idealize.ShloMosaic.TcCoe Idealize.ShloMosaic.Tactic
open Cert.Kernel3Ideal Cert.Kernel3Ideal.Gen
open Cert.RealMath
open Cert.Reference3Ideal.Inproj (Arrs dh ms gh share gradX gradW sumD dh_apply ms_apply gh_apply share_apply gradX_apply
  gradW_apply sumD_apply col)
open scoped BigOperators

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)

/-- The grid point as a number below sixteen. -/
abbrev pt (t : Fin cfg0.N) : Fin 16 := ⟨t.val, N_0 ▸ t.isLt⟩
/-- Row `r` of block `t`. -/
abbrev row (t : Fin 16) (r : Fin 256) : Fin 4096 := ⟨t.val * 256 + r.val, by omega⟩

variable (m : (ℓ : Loc nD τ sig) → Buf (Elt Ideal) ℓ) (c : Dev nD)

/-- The arguments as launched. -/
def arrs : Arrs :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-! ## The arrays the launch reads, and their blocks -/

theorem V_d0 (r : Fin 4096) (k : Fin 1536) : (V m c main_v0 : FVec Ideal S4096x1536 .bf16) (ix2 r k) = (arrs m c).d0 (ix2 r k) := by
  unfold V
  after_reads_at
  rfl
theorem V_d1 (r : Fin 4096) (k : Fin 512) : (V m c main_v1 : FVec Ideal S4096x512 .bf16) (ix2 r k) = (arrs m c).d1 (ix2 r k) := by
  unfold V
  after_reads_at
  rfl
theorem V_d2 (r : Fin 4096) (k : Fin 512) : (V m c main_v2 : FVec Ideal S4096x512 .bf16) (ix2 r k) = (arrs m c).d2 (ix2 r k) := by
  unfold V
  after_reads_at
  rfl
theorem V_d3 (r : Fin 4096) (k : Fin 512) : (V m c main_v3 : FVec Ideal S4096x512 .bf16) (ix2 r k) = (arrs m c).d3 (ix2 r k) := by
  unfold V
  after_reads_at
  rfl
theorem V_d4 (r : Fin 4096) (k : Fin 512) : (V m c main_v4 : FVec Ideal S4096x512 .bf16) (ix2 r k) = (arrs m c).d4 (ix2 r k) := by
  unfold V
  after_reads_at
  rfl
theorem V_d5 (r : Fin 4096) (k : Fin 512) : (V m c main_v5 : FVec Ideal S4096x512 .bf16) (ix2 r k) = (arrs m c).d5 (ix2 r k) := by
  unfold V
  after_reads_at
  rfl
theorem V_w (k : Fin 4224) (j : Fin 1024) : (V m c main_v7 : FVec Ideal S4224x1024 .bf16) (ix2 k j) = (arrs m c).w (ix2 j k) := by
  unfold V
  after_reads_at
  rfl

variable (t : Fin cfg0.N)

theorem blk_x (r : Fin 256) (j : Fin 1024) :
    (iblk m c 0 t : FVec Ideal S256x1024 .f32) (ix2 r j) = (arrs m c).x (ix2 (row (pt t) r) j) := by
  show V m c main_arg0 _ = m ((c : Thread nD τ).loc main_arg0) _
  rw [V_main_arg0]
  blk_ext [ix_0]
theorem blk_nw (j : Fin 1024) :
    (iblk m c 1 t : FVec Ideal S1x1024 .f32) (ix2 0 j) = (arrs m c).nw (ix2 0 j) := by
  show V m c main_arg1 _ = m ((c : Thread nD τ).loc main_arg1) _
  rw [V_main_arg1]
  blk_ext [ix_1]
theorem blk_w (k : Fin 4224) (j : Fin 1024) :
    (iblk m c 2 t : FVec Ideal S4224x1024 .bf16) (ix2 k j) = (arrs m c).w (ix2 j k) := by
  rw [← V_w]
  show V m c main_v7 _ = V m c main_v7 _
  blk_ext [ix_2]
theorem blk_dy (r : Fin 256) (j : Fin 1024) :
    (iblk m c 3 t : FVec Ideal S256x1024 .f32) (ix2 r j) = (arrs m c).dy (ix2 (row (pt t) r) j) := by
  show V m c main_arg3 _ = m ((c : Thread nD τ).loc main_arg3) _
  rw [V_main_arg3]
  blk_ext [ix_3]
theorem blk_d0 (r : Fin 256) (k : Fin 1536) :
    (iblk m c 4 t : FVec Ideal S256x1536 .bf16) (ix2 r k) = (arrs m c).d0 (ix2 (row (pt t) r) k) := by
  rw [← V_d0]
  show V m c main_v0 _ = V m c main_v0 _
  blk_ext [ix_4]
theorem blk_d1 (r : Fin 256) (k : Fin 512) :
    (iblk m c 5 t : FVec Ideal S256x512 .bf16) (ix2 r k) = (arrs m c).d1 (ix2 (row (pt t) r) k) := by
  rw [← V_d1]
  show V m c main_v1 _ = V m c main_v1 _
  blk_ext [ix_5]
theorem blk_d2 (r : Fin 256) (k : Fin 512) :
    (iblk m c 6 t : FVec Ideal S256x512 .bf16) (ix2 r k) = (arrs m c).d2 (ix2 (row (pt t) r) k) := by
  rw [← V_d2]
  show V m c main_v2 _ = V m c main_v2 _
  blk_ext [ix_6]
theorem blk_d3 (r : Fin 256) (k : Fin 512) :
    (iblk m c 7 t : FVec Ideal S256x512 .bf16) (ix2 r k) = (arrs m c).d3 (ix2 (row (pt t) r) k) := by
  rw [← V_d3]
  show V m c main_v3 _ = V m c main_v3 _
  blk_ext [ix_7]
theorem blk_d4 (r : Fin 256) (k : Fin 512) :
    (iblk m c 8 t : FVec Ideal S256x512 .bf16) (ix2 r k) = (arrs m c).d4 (ix2 (row (pt t) r) k) := by
  rw [← V_d4]
  show V m c main_v4 _ = V m c main_v4 _
  blk_ext [ix_8]
theorem blk_d5 (r : Fin 256) (k : Fin 512) :
    (iblk m c 9 t : FVec Ideal S256x512 .bf16) (ix2 r k) = (arrs m c).d5 (ix2 (row (pt t) r) k) := by
  rw [← V_d5]
  show V m c main_v5 _ = V m c main_v5 _
  blk_ext [ix_9]
theorem blk_d6 (r : Fin 256) (k : Fin 128) :
    (iblk m c 10 t : FVec Ideal S256x128 .f32) (ix2 r k) = (arrs m c).d6 (ix2 (row (pt t) r) k) := by
  show V m c main_arg10 _ = m ((c : Thread nD τ).loc main_arg10) _
  rw [V_main_arg10]
  blk_ext [ix_10]

/-! ## A point's values -/

/-- The normed rows' cotangent, from point `t`'s blocks. -/
abbrev dhT : FVec Ideal S256x1024 .f32 :=
  dhB (iblk m c 2 t) (iblk m c 4 t) (iblk m c 5 t) (iblk m c 6 t) (iblk m c 7 t) (iblk m c 8 t) (iblk m c 9 t) (iblk m c 10 t)

/-- A block's cotangent is the whole cotangent's rows: the sections are summed in the opposite order. -/
theorem dhT_apply (r : Fin 256) (j : Fin 1024) : dhT m c t (ix2 r j) = dh (arrs m c) (ix2 (row (pt t) r) j) := by
  unfold dhT
  rw [dhB_apply, front_apply, dh_apply]
  simp only [sec0_apply, sec6_apply, sec_apply _ 1536 _ (by decide), sec_apply _ 2048 _ (by decide),
    sec_apply _ 2560 _ (by decide), sec_apply _ 3072 _ (by decide), sec_apply _ 3584 _ (by decide),
    blk_w, blk_d0, blk_d1, blk_d2, blk_d3, blk_d4, blk_d5, blk_d6, col]
  ac_rfl

theorem msT (r : Fin 256) : msB (iblk m c 0 t) r = ms (arrs m c) (ix2 (row (pt t) r) 0) := by
  rw [ms_apply]
  unfold msB
  simp only [blk_x]

theorem rsT (r : Fin 256) : k0_pay9 (F := Ideal) (iblk m c 0 t) (ix2 r 0)
    = Ideal.rsqrt (ms (arrs m c) (ix2 (row (pt t) r) 0)) := by
  rw [rsB_apply, msT]

theorem xhT (r : Fin 256) (j : Fin 1024) : k0_pay10 (F := Ideal) (iblk m c 0 t) (ix2 r j)
    = (arrs m c).x (ix2 (row (pt t) r) j) * Ideal.rsqrt (ms (arrs m c) (ix2 (row (pt t) r) 0)) := by
  rw [xhB_apply, msT, blk_x]

/-- Every argument that the gradient multiplies holds reals. -/
structure Real (A : Arrs) : Prop where
  x : ∀ i, IsR (A.x i)
  nw : ∀ i, IsR (A.nw i)
  w : ∀ i, IsR (A.w i)
  d0 : ∀ i, IsR (A.d0 i)
  d1 : ∀ i, IsR (A.d1 i)
  d2 : ∀ i, IsR (A.d2 i)
  d3 : ∀ i, IsR (A.d3 i)
  d4 : ∀ i, IsR (A.d4 i)
  d5 : ∀ i, IsR (A.d5 i)
  d6 : ∀ i, IsR (A.d6 i)

theorem Real.gh {A : Arrs} (H : Real A) (r : Fin 4096) (j : Fin 1024) : IsR (gh A (ix2 r j)) := by
  rw [gh_apply, dh_apply]
  exact IsR.mul (((((((isR_sum _ _ fun k => (H.d6 _).mul (H.w _)).add (isR_sum _ _ fun k => (H.d5 _).mul (H.w _))).add
    (isR_sum _ _ fun k => (H.d4 _).mul (H.w _))).add (isR_sum _ _ fun k => (H.d3 _).mul (H.w _))).add
    (isR_sum _ _ fun k => (H.d2 _).mul (H.w _))).add (isR_sum _ _ fun k => (H.d1 _).mul (H.w _))).add
    (isR_sum _ _ fun k => (H.d0 _).mul (H.w _))) (H.nw _)

/-- The rows' gradient of point `t`'s blocks is the reference's at those rows. -/
theorem dxT (H : Real (arrs m c)) (r : Fin 256) (j : Fin 1024) :
    dxB (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r j) = gradX (arrs m c) (ix2 (row (pt t) r) j) := by
  rw [dxB_apply, gradX_apply, share_apply, rsT, xhT, blk_dy]
  simp only [xhT, dhT_apply, blk_nw, ← gh_apply]
  obtain ⟨v, hv, hM⟩ := mean_sq_pos (o := fun l => (arrs m c).x (ix2 (row (pt t) r) l)) (fun l => H.x _)
    (by norm_num : (0 : ℝ) < 1024) c1024
  rw [← ms_apply] at hM
  have e := row_eq (o := fun l => (arrs m c).x (ix2 (row (pt t) r) l)) (g := fun l => gh (arrs m c) (ix2 (row (pt t) r) l))
    (fun l => H.x _) (fun l => H.gh _ l) hv hM (by norm_num : (0 : ℝ) < 1024) c1024 j
  rw [add_comm]
  refine (congrArg _ e).trans ?_
  simp only [add_assoc]

/-- What block `t` gives the norm's weight. -/
def partW (j : Fin 1024) (t : Fin 16) : EReal :=
  ∑ r : Fin 256, (arrs m c).x (ix2 (row t r) j) * Ideal.rsqrt (ms (arrs m c) (ix2 (row t r) 0)) * dh (arrs m c) (ix2 (row t r) j)

/-- What block `t` gives the last section's sum. -/
def partD (j : Fin 128) (t : Fin 16) : EReal := ∑ r : Fin 256, (arrs m c).d6 (ix2 (row t r) j)

theorem dnwT (s : FVec Ideal S8x1024 .f32) (e : Fin 8) (j : Fin 1024) :
    dnwB (iblk m c 0 t) (iblk m c 2 t) (iblk m c 4 t) (iblk m c 5 t) (iblk m c 6 t) (iblk m c 7 t) (iblk m c 8 t) (iblk m c 9 t)
      (iblk m c 10 t) s (ix2 e j) = s (ix2 e j) + partW m c j (pt t) := by
  rw [dnwB_apply]
  unfold partW
  congr 1
  exact Finset.sum_congr rfl fun r _ => (congrArg₂ (· * ·) (dhT_apply m c t r j) (xhT m c t r j)).trans (mul_comm _ _)

theorem sumT (u : FVec Ideal S8x128 .f32) (e : Fin 8) (j : Fin 128) :
    k0_pay3 u (iblk m c 10 t) (ix2 e j) = u (ix2 e j) + partD m c j (pt t) := by
  rw [sumB_apply]
  unfold partD
  simp only [blk_d6]

/-! ## The running sums -/

theorem lt16 {n : ℕ} (hn : n < 16) : n < cfg0.N := lt_of_lt_of_eq hn N_0.symm

theorem after_dx (H : Real (arrs m c)) (r : Fin 256) (j : Fin 1024) :
    (outsAt0 m c t.val t.isLt).1 (ix2 r j) = gradX (arrs m c) (ix2 (row (pt t) r) j) := by
  by_cases h : t.val % 16 = 0
  · rw [outsAt0_A m c t h]
    dsimp only
    rw [first_dx, dxT m c t H]
  · rw [outsAt0_B m c t h]
    dsimp only
    rw [rest_dx, dxT m c t H]

theorem after_nw (e : Fin 8) (j : Fin 1024) (n : ℕ) (hn : n < 16) :
    (outsAt0 m c n (lt16 hn)).2.1 (ix2 e j) = ∑ k : Fin (n + 1), partW m c j ⟨k.val, by omega⟩ := by
  induction n with
  | zero =>
    rw [outsAt0_A m c ⟨0, lt16 hn⟩ (Nat.zero_mod 16)]
    dsimp only
    rw [first_nw, dnwT, zeroW_apply, zero_add, Fin.sum_univ_one]
    rfl
  | succ n ih =>
    rw [outsAt0_B m c ⟨n + 1, lt16 hn⟩ (by dsimp only; omega)]
    dsimp only
    rw [rest_nw, dnwT, Fin.sum_univ_castSucc]
    exact congrArg (· + _) (ih (by omega))

theorem after_sum (e : Fin 8) (j : Fin 128) (n : ℕ) (hn : n < 16) :
    (outsAt0 m c n (lt16 hn)).2.2 (ix2 e j) = ∑ k : Fin (n + 1), partD m c j ⟨k.val, by omega⟩ := by
  induction n with
  | zero =>
    rw [outsAt0_A m c ⟨0, lt16 hn⟩ (Nat.zero_mod 16)]
    dsimp only
    rw [first_sum, sumT, zeroD_apply, zero_add, Fin.sum_univ_one]
    rfl
  | succ n ih =>
    rw [outsAt0_B m c ⟨n + 1, lt16 hn⟩ (by dsimp only; omega)]
    dsimp only
    rw [rest_sum, sumT, Fin.sum_univ_castSucc]
    exact congrArg (· + _) (ih (by omega))

theorem last_nw (ht : t.val = 15) (e : Fin 8) (j : Fin 1024) :
    (outsAt0 m c t.val t.isLt).2.1 (ix2 e j) = gradW (arrs m c) (ix2 e j) := by
  rw [gradW_apply, Fin.sum_univ_tiles 16 256 rfl]
  exact (after_nw m c e j t.val (by omega)).trans (Fin.sum_congr' (fun k : Fin 16 => partW m c j k) (by omega : t.val + 1 = 16))

theorem last_sum (ht : t.val = 15) (e : Fin 8) (j : Fin 128) :
    (outsAt0 m c t.val t.isLt).2.2 (ix2 e j) = sumD (arrs m c) (ix2 e j) := by
  rw [sumD_apply, Fin.sum_univ_tiles 16 256 rfl]
  exact (after_sum m c e j t.val (by omega)).trans (Fin.sum_congr' (fun k : Fin 16 => partD m c j k) (by omega : t.val + 1 = 16))

/-! ## The results -/

theorem exists_ix2 {a b : ℕ} (y : Shape.Idx ⟨2, ![a, b]⟩) : ∃ (i : Fin a) (j : Fin b), y = ix2 i j :=
  ⟨y 0, y 1, by funext k; match k with | ⟨0, _⟩ => rfl | ⟨1, _⟩ => rfl⟩

theorem final_11 (H : Real (arrs m c)) : (dats m 0 c).arrAt 11 cfg0.N = gradX (arrs m c) := by
  refine (dats m 0 c).arrAt_eq_of_covers 11 _ (by decide +kernel) fun t hf y => ?_
  blk_simp
  rw [after0_11]
  obtain ⟨r, j, rfl⟩ := exists_ix2 y
  refine (after_dx m c t H r j).trans ?_
  blk_ext [ix_11]

theorem final_12 : (dats m 0 c).arrAt 12 cfg0.N = gradW (arrs m c) := by
  refine (dats m 0 c).arrAt_eq_of_covers 12 _ (by decide +kernel) fun t hf y => ?_
  have ht : t.val = 15 := by have h := (flush0_12 t).mp hf; have h16 : t.val < 16 := (pt t).isLt; omega
  blk_simp
  rw [after0_12]
  obtain ⟨e, j, rfl⟩ := exists_ix2 y
  refine (last_nw m c t ht e j).trans ?_
  blk_ext [ix_12]

theorem final_13 : (dats m 0 c).arrAt 13 cfg0.N = sumD (arrs m c) := by
  refine (dats m 0 c).arrAt_eq_of_covers 13 _ (by decide +kernel) fun t hf y => ?_
  have ht : t.val = 15 := by have h := (flush0_13 t).mp hf; have h16 : t.val < 16 := (pt t).isLt; omega
  blk_simp
  rw [after0_13]
  obtain ⟨e, j, rfl⟩ := exists_ix2 y
  refine (last_sum m c t ht e j).trans ?_
  blk_ext [ix_13]

/-- The side conditions of the precondition's operations. -/
theorem finite3_facts : Cert.Pre_finite3.Facts where
  bcast_S_S4096x1024 := by decide
  bcast_S_S1x1024 := by decide
  bcast_S_S1024x4224 := by decide
  bcast_S_S4096x1536 := by decide
  bcast_S_S4096x512 := by decide
  bcast_S_S4096x128 := by decide

theorem real_of_finite [Cert.Pre_finite3.Facts] (h : Cert.Pre_Kernel3Ideal_finite3 m) : Real (arrs m c) := by
  obtain ⟨h0, h1, h2, h4, h5, h6, h7, h8, h9, h10⟩ := h c
  constructor <;> intro i <;> refine Cert.KernelIdeal.Out.isR_of_abs_lt (Cert.KernelIdeal.Out.cTop ▸ ?_)
  · exact congrFun h0 i
  · exact congrFun h1 i
  · exact congrFun h2 i
  · exact congrFun h4 i
  · exact congrFun h5 i
  · exact congrFun h6 i
  · exact congrFun h7 i
  · exact congrFun h8 i
  · exact congrFun h9 i
  · exact congrFun h10 i

end Cert.Kernel3Ideal.Inproj

/-! ## The claims -/

namespace Cert.Proof

open Idealize.ShloMosaic Idealize.SL.Sem

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

/-- The reference's frame: its run's kept arguments; it declares no semaphore. -/
theorem frame_reference3 : Cert.quiescent_Reference3Ideal := fun m ρ _ =>
  (θ_run _ _ _).mono (fun r h => ⟨fun c => (h c).2.2.2, sem_eq_zero_of_no_sems (by decide) r.2⟩)
    (Cert.Reference3Ideal.Value.run m ρ)

section

local instance : Cert.Pre_finite3.Facts := Cert.Kernel3Ideal.Inproj.finite3_facts

theorem frame_kernel3Ideal_finite : Cert.quiescent_Kernel3Ideal_pre_finite3 := fun m ρ _ => frame_kernel3Ideal m ρ trivial

theorem frame_reference3_finite : Cert.quiescent_Reference3Ideal_pre_finite3 := fun m ρ _ => frame_reference3 m ρ trivial

/-- From finite arguments, the cotangent of the rows apart, the kernel's results are the reference's. -/
theorem values3 : Cert.algebraic_Kernel3Ideal_Reference3Ideal_pre_finite3 := fun m ρ m' ρ' hfin hag => by
  have hA : ∀ c, Cert.Reference3Ideal.Inproj.arrs m' c = Cert.Kernel3Ideal.Inproj.arrs m c := fun c => by
    obtain ⟨e0, e1, e2, e3, e4, e5, e6, e7, e8, e9, e10⟩ := hag c
    unfold Cert.Reference3Ideal.Inproj.arrs Cert.Kernel3Ideal.Inproj.arrs
    rw [e0, e1, e2, e3, e4, e5, e6, e7, e8, e9, e10]
  refine ⟨fun c => Cert.Reference3Ideal.Inproj.gradX (Cert.Kernel3Ideal.Inproj.arrs m c),
    fun c => Cert.Reference3Ideal.Inproj.gradW (Cert.Kernel3Ideal.Inproj.arrs m c),
    fun c => Cert.Reference3Ideal.Inproj.sumD (Cert.Kernel3Ideal.Inproj.arrs m c), ?_, ?_⟩
  · refine (θ_run _ _ _).mono (fun _ h c => ?_) (Cert.Kernel3Ideal.Value.run_blocks m ρ)
    obtain ⟨h0, h1, h2, hk⟩ := h c
    exact ⟨h0.trans (Cert.Kernel3Ideal.Inproj.final_11 m c (Cert.Kernel3Ideal.Inproj.real_of_finite m c hfin)),
      h1.trans (Cert.Kernel3Ideal.Inproj.final_12 m c), h2.trans (Cert.Kernel3Ideal.Inproj.final_13 m c), hk⟩
  · refine (θ_run _ _ _).mono (fun _ h c => ?_) (Cert.Reference3Ideal.Inproj.run_arrs m' ρ')
    obtain ⟨h0, h1, h2, hk⟩ := h c
    rw [hA c] at h0 h1 h2
    exact ⟨h0, h1, h2, hk⟩

end

end Cert.Proof

end
-- ==== Proof.ForwardReference.lean ====
/- The forward input projection and its short convolution, as the reference computes them, at an index. -/
module

public import proofs.«01_k».proof.Proof.Gen.Reference4Ideal.Run
public import Idealize.ShloMosaic.Lib.StableHlo.ReadAt
public import Idealize.ShloMosaic.Lib.Pointwise

@[expose] public section

set_option maxRecDepth 16384

noncomputable section

namespace Cert.Reference4Ideal.Forward

open Idealize.ShloMosaic Idealize.ShloMosaic.TcCoe Idealize.ShloMosaic.Tactic
open Cert.Reference4Ideal Cert.Reference4Ideal.Gen
open scoped BigOperators

variable (x : FVec Ideal S4096x1024 .f32) (nw : FVec Ideal S1x1024 .f32) (w : FVec Ideal S1024x4224 .f32)

/-- The rows normed: each over the root of its mean square, times the norm's weight. -/
def normed : FVec Ideal S4096x1024 .f32 :=
  mulf (mulf x (broadcastInDim S4096x1024 ![0, 1] bcast_S4096x1_S4096x1024_0_1 (Host.rsqrt (addf (Host.divf
    (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 nw)

/-- The projection of the normed rows. -/
def proj : FVec Ideal S4096x4224 .f32 :=
  Host.dotGeneral dot_S4096x1024_S1024x4224_S4096x4224_1_0_0_1_n_n none (normed x nw) w

theorem proj_apply (p : Fin 4096) (q : Fin 4224) :
    proj x nw w (ix2 p q) = ∑ l : Fin 1024, normed x nw (ix2 p l) * w (ix2 l q) := by
  pointwise [proj]

/-- The columns the convolution reads. -/
def sec : FVec Ideal S4096x1536 .f32 := extractStridedSlice S4096x1536 ![0, 0] (proj x nw w) slices_S4096x4224_S4096x1536_0_0

variable (P : FVec Ideal S4096x1536 .f32) (cw : FVec Ideal S4x1536 .f32)

/-- Three rows of zeros above the rows. -/
def padded : FVec Ideal S4099x1536 .f32 :=
  pad S4099x1536 ![3, 0] ![0, 0] ![0, 0] P (sitofp .f32 (constantI S_ 32 0#32)) pads_S4096x1536_S4099x1536_300_000 h_S_

/-- The first filter row, over every row. -/
def filt0 : FVec Ideal S4096x1536 .f32 :=
  broadcastInDim S4096x1536 ![0, 1] bcast_S1x1536_S4096x1536_0_1 (broadcastInDim S1x1536 ![1] bcast_S1536_S1x1536_1
    (shapeCast _ (extractStridedSlice S1x1536 ![0, 0] cw slices_S4x1536_S1x1536_0_0) shapeCasts_S1x1536_S1536))

/-- The convolution. -/
def conv : FVec Ideal S4096x1536 .f32 :=
  addf (addf (addf
    (mulf (extractStridedSlice S4096x1536 ![0, 0] (padded P) slices_S4099x1536_S4096x1536_0_0) (filt0 cw))
    (mulf (extractStridedSlice S4096x1536 ![1, 0] (padded P) slices_S4099x1536_S4096x1536_1_0)
      (broadcastInDim S4096x1536 ![0, 1] bcast_S1x1536_S4096x1536_0_1 (broadcastInDim S1x1536 ![1] bcast_S1536_S1x1536_1
        (shapeCast _ (extractStridedSlice S1x1536 ![1, 0] cw slices_S4x1536_S1x1536_1_0) shapeCasts_S1x1536_S1536)))))
    (mulf (extractStridedSlice S4096x1536 ![2, 0] (padded P) slices_S4099x1536_S4096x1536_2_0)
      (broadcastInDim S4096x1536 ![0, 1] bcast_S1x1536_S4096x1536_0_1 (broadcastInDim S1x1536 ![1] bcast_S1536_S1x1536_1
        (shapeCast _ (extractStridedSlice S1x1536 ![2, 0] cw slices_S4x1536_S1x1536_2_0) shapeCasts_S1x1536_S1536)))))
    (mulf (extractStridedSlice S4096x1536 ![3, 0] (padded P) slices_S4099x1536_S4096x1536_3_0)
      (broadcastInDim S4096x1536 ![0, 1] bcast_S1x1536_S4096x1536_0_1 (broadcastInDim S1x1536 ![1] bcast_S1536_S1x1536_1
        (shapeCast _ (extractStridedSlice S1x1536 ![3, 0] cw slices_S4x1536_S1x1536_3_0) shapeCasts_S1x1536_S1536))))

/-- The convolution times its logistic. -/
def act : FVec Ideal S4096x1536 .f32 :=
  mulf (conv P cw) (Host.divf (broadcastInDim S4096x1536 ![] bcast_S_S4096x1536 (constant S_ .f32 0x3F800000#32))
    (addf (broadcastInDim S4096x1536 ![] bcast_S_S4096x1536 (constant S_ .f32 0x3F800000#32)) (Host.exp (Host.negf (conv P cw)))))

/-- Each head's columns over the root of the sum of their squares. -/
def unit (a : FVec Ideal S4096x512 .f32) : FVec Ideal S4096x512 .f32 :=
  shapeCast _ (mulf (shapeCast _ a shapeCasts_S4096x512_S4096x4x128) (broadcastInDim S4096x4x128 ![0, 1, 2]
    bcast_S4096x4x1_S4096x4x128_0_1_2 (Host.rsqrt (addf (broadcastInDim S4096x4x1 ![0, 1] bcast_S4096x4_S4096x4x1_0_1
      (Host.reduceAdd (mulf (shapeCast _ a shapeCasts_S4096x512_S4096x4x128) (shapeCast _ a shapeCasts_S4096x512_S4096x4x128))
        (constant S_ .f32 0x00000000#32) reducesTo_S4096x4x128_S4096x4_d2 h_S_))
      (broadcastInDim S4096x4x1 ![] bcast_S_S4096x4x1 (constant S_ .f32 0x358637BD#32)))))) shapeCasts_S4096x4x128_S4096x512

/-- The queries, the keys and the values, side by side. -/
def qkv : FVec Ideal S4096x1536 .f32 :=
  concatenate S4096x1536 1 [⟨S4096x512, mulf (unit (extractStridedSlice S4096x512 ![0, 0] (act P cw) slices_S4096x1536_S4096x512_0_0))
      (broadcastInDim S4096x512 ![] bcast_S_S4096x512 (constant S_ .f32 0x3DB504F3#32))⟩,
    ⟨S4096x512, unit (extractStridedSlice S4096x512 ![0, 512] (act P cw) slices_S4096x1536_S4096x512_0_512)⟩,
    ⟨S4096x512, extractStridedSlice S4096x512 ![0, 1024] (act P cw) slices_S4096x1536_S4096x512_0_1024⟩]
    concatenates_S4096x512_S4096x512_S4096x512_S4096x1536_d1

/-! ## At an index -/

/-- The entry `k` rows up, or zero above the first row. -/
def tap (k : Nat) (p : Fin 4096) (q : Fin 1536) : EReal :=
  if k ≤ p.val then P (ix2 ⟨p.val - k, by have := p.isLt; omega⟩ q) else 0

/-- The convolution at an index. -/
def convAt (p : Fin 4096) (q : Fin 1536) : EReal :=
  tap P 3 p q * cw (ix2 0 q) + tap P 2 p q * cw (ix2 1 q) + tap P 1 p q * cw (ix2 2 q) + tap P 0 p q * cw (ix2 3 q)

/-- A number times its logistic. -/
def silu (y : EReal) : EReal :=
  y * Ideal.div (Ideal.ofBits .f32 0x3F800000#32) (Ideal.ofBits .f32 0x3F800000#32 + Ideal.exp (-y))

theorem padded_apply (i k : Nat) (hik : i + k = 3) (p : Fin 4096) (q : Fin 1536) (h : i + p.val < 4099) :
    padded P (ix2 ⟨i + p.val, h⟩ q) = tap P k p q := by
  have hp := p.isLt
  have e : padded P (ix2 ⟨i + p.val, h⟩ q)
      = if h : 3 ≤ i + p.val ∧ i + p.val - 3 < 4096 then P (ix2 ⟨i + p.val - 3, h.2⟩ q) else FloatOps.sitofp .f32 0#32 := by
    pointwise [padded]
  rw [e]; unfold tap
  by_cases hk : k ≤ p.val
  · rw [dif_pos (by omega), if_pos hk]
    exact congrArg (fun a => P (ix2 a q)) (Fin.ext (by show i + p.val - 3 = p.val - k; omega))
  · rw [dif_neg (by omega), if_neg hk]
    show ((((0#32 : BitVec 32).toInt : ℝ)) : EReal) = 0
    simp

theorem conv_apply (p : Fin 4096) (q : Fin 1536) : conv P cw (ix2 p q) = convAt P cw p q := by
  have hp := p.isLt
  unfold convAt
  rw [← padded_apply P 0 3 rfl p q (by omega), ← padded_apply P 1 2 rfl p q (by omega),
    ← padded_apply P 2 1 rfl p q (by omega), ← padded_apply P 3 0 rfl p q (by omega)]
  generalize hg : padded P = u
  pointwise [conv, filt0, hg]

theorem act_apply (p : Fin 4096) (q : Fin 1536) : act P cw (ix2 p q) = silu (convAt P cw p q) := by
  pointwise [act, conv_apply, silu]

theorem unit_apply (a : FVec Ideal S4096x512 .f32) (p : Fin 4096) (q : Fin 512) :
    unit a (ix2 p q) = a (ix2 p q) * Ideal.rsqrt ((∑ l : Fin 128, a (ix2 p ⟨q.val / 128 * 128 + l.val, by omega⟩)
      * a (ix2 p ⟨q.val / 128 * 128 + l.val, by omega⟩)) + Ideal.ofBits .f32 0x358637BD#32) := by
  pointwise [unit]

/-- Column `l` of the head that column `q` belongs to. -/
def head (q : Fin 1536) (l : Fin 128) : Fin 1536 := ⟨q.val / 128 * 128 + l.val, by have := q.isLt; omega⟩

/-- A head's column over the root of the sum of the head's squares. -/
def unitAt (a : Fin 1536 → EReal) (q : Fin 1536) : EReal :=
  a q * Ideal.rsqrt ((∑ l : Fin 128, a (head q l) * a (head q l)) + Ideal.ofBits .f32 0x358637BD#32)

/-- The queries, the keys and the values at an index. -/
def qkvAt (a : Fin 1536 → EReal) (q : Fin 1536) : EReal :=
  if q.val < 512 then unitAt a q * Ideal.ofBits .f32 0x3DB504F3#32 else if q.val < 1024 then unitAt a q else a q

theorem cat_apply (a b e : FVec Ideal S4096x512 .f32) (p : Fin 4096) (q : Fin 1536) :
    concatenate S4096x1536 1 [⟨S4096x512, a⟩, ⟨S4096x512, b⟩, ⟨S4096x512, e⟩]
      concatenates_S4096x512_S4096x512_S4096x512_S4096x1536_d1 (ix2 p q)
    = if h : q.val < 512 then a (ix2 p ⟨q.val, h⟩) else if h' : q.val < 1024 then b (ix2 p ⟨q.val - 512, by omega⟩)
      else e (ix2 p ⟨q.val - 1024, by omega⟩) := by
  have e' : concatenate S4096x1536 1 [⟨S4096x512, a⟩, ⟨S4096x512, b⟩, ⟨S4096x512, e⟩]
      concatenates_S4096x512_S4096x512_S4096x512_S4096x1536_d1 (ix2 p q)
    = if h : q.val < 512 then a (ix2 p ⟨q.val, h⟩) else if h' : q.val - 512 < 512 then b (ix2 p ⟨q.val - 512, h'⟩)
      else e (ix2 p ⟨q.val - 512 - 512, by omega⟩) := by
    pointwise
  rw [e']
  by_cases h : q.val < 512
  · rw [dif_pos h, dif_pos h]
  rw [dif_neg h, dif_neg h]
  by_cases h' : q.val < 1024
  · rw [dif_pos h', dif_pos (by omega)]
  rw [dif_neg h', dif_neg (by omega)]
  exact congrArg (fun i => e (ix2 p i)) (Fin.ext (by show q.val - 512 - 512 = q.val - 1024; omega))

theorem unitAt_of {a : FVec Ideal S4096x512 .f32} {b : Fin 1536 → EReal} (p : Fin 4096) (o : Nat) (ho : o % 128 = 0)
    (q : Fin 512) (q' : Fin 1536) (hq : o + q.val = q'.val)
    (h : ∀ (l : Fin 512) (l' : Fin 1536), o + l.val = l'.val → a (ix2 p l) = b l') : unit a (ix2 p q) = unitAt b q' := by
  rw [unit_apply]; unfold unitAt
  have e : ∀ l : Fin 128, a (ix2 p ⟨q.val / 128 * 128 + l.val, by omega⟩) = b (head q' l) := fun l =>
    h _ _ (by show o + (q.val / 128 * 128 + l.val) = q'.val / 128 * 128 + l.val; omega)
  simp only [e, h q q' hq]

theorem qkv_apply (p : Fin 4096) (q : Fin 1536) :
    qkv P cw (ix2 p q) = qkvAt (fun q => silu (convAt P cw p q)) q := by
  unfold qkv
  rw [cat_apply]
  unfold qkvAt
  simp only [← act_apply]
  generalize act P cw = A
  by_cases h : q.val < 512
  · rw [dif_pos h, if_pos h]
    refine Eq.trans (b := unit (extractStridedSlice S4096x512 ![0, 0] A slices_S4096x1536_S4096x512_0_0) (ix2 p ⟨q.val, h⟩)
      * Ideal.ofBits .f32 0x3DB504F3#32) (by pointwise) ?_
    refine congrArg (· * Ideal.ofBits .f32 0x3DB504F3#32) (unitAt_of p 0 rfl _ q (by simp) fun l l' hl => ?_)
    refine Eq.trans (b := A (ix2 p ⟨l.val, by omega⟩)) (by pointwise) (congrArg (fun i => A (ix2 p i)) (Fin.ext (by simpa using hl)))
  rw [dif_neg h, if_neg h]
  by_cases h' : q.val < 1024
  · rw [dif_pos h', if_pos h']
    refine unitAt_of p 512 rfl _ q (by show 512 + (q.val - 512) = q.val; omega) fun l l' hl => ?_
    refine Eq.trans (b := A (ix2 p ⟨512 + l.val, by omega⟩)) (by pointwise) (congrArg (fun i => A (ix2 p i)) (Fin.ext hl))
  rw [dif_neg h', if_neg h']
  refine Eq.trans (b := A (ix2 p ⟨1024 + (q.val - 1024), by have := q.isLt; omega⟩)) (by pointwise)
    (congrArg (fun i => A (ix2 p i)) (Fin.ext (by show 1024 + (q.val - 1024) = q.val; omega)))

/-! ## The run -/

variable (m : (ℓ : Loc nD τ sig) → Buf (Elt Ideal) ℓ) (ρ : Dev nD → PrngReg)

/-- Every weakly fair execution of the reference terminates, its results these of its arguments and those kept. -/
theorem run_fwd : θ_run defs (onTc (τ := τ) (main (F := Ideal))) ⟨m, fun _ => 0, ρ⟩ fun r => ∀ c : Dev nD,
      r.2.mem ((c.tc : Thread nD τ).loc main_v13) = sec (m ((c.tc : Thread nD τ).loc main_arg0))
        (m ((c.tc : Thread nD τ).loc main_arg1)) (m ((c.tc : Thread nD τ).loc main_arg2))
      ∧ r.2.mem ((c.tc : Thread nD τ).loc main_v72) = qkv (sec (m ((c.tc : Thread nD τ).loc main_arg0))
        (m ((c.tc : Thread nD τ).loc main_arg1)) (m ((c.tc : Thread nD τ).loc main_arg2))) (m ((c.tc : Thread nD τ).loc main_arg3))
      ∧ r.2.mem ((c.tc : Thread nD τ).loc main_v14) = extractStridedSlice S4096x512 ![0, 1536]
        (proj (m ((c.tc : Thread nD τ).loc main_arg0)) (m ((c.tc : Thread nD τ).loc main_arg1))
          (m ((c.tc : Thread nD τ).loc main_arg2))) slices_S4096x4224_S4096x512_0_1536
      ∧ r.2.mem ((c.tc : Thread nD τ).loc main_v15) = extractStridedSlice S4096x1536 ![0, 2048]
        (proj (m ((c.tc : Thread nD τ).loc main_arg0)) (m ((c.tc : Thread nD τ).loc main_arg1))
          (m ((c.tc : Thread nD τ).loc main_arg2))) slices_S4096x4224_S4096x1536_0_2048
      ∧ r.2.mem ((c.tc : Thread nD τ).loc main_v16) = extractStridedSlice S4096x512 ![0, 3584]
        (proj (m ((c.tc : Thread nD τ).loc main_arg0)) (m ((c.tc : Thread nD τ).loc main_arg1))
          (m ((c.tc : Thread nD τ).loc main_arg2))) slices_S4096x4224_S4096x512_0_3584
      ∧ r.2.mem ((c.tc : Thread nD τ).loc main_v17) = extractStridedSlice S4096x128 ![0, 4096]
        (proj (m ((c.tc : Thread nD τ).loc main_arg0)) (m ((c.tc : Thread nD τ).loc main_arg1))
          (m ((c.tc : Thread nD τ).loc main_arg2))) slices_S4096x4224_S4096x128_0_4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by clear * -; rfl), (h c).2.1.trans (by clear * -; rfl),
    (h c).2.2.1.trans (by clear * -; rfl), (h c).2.2.2.1.trans (by clear * -; rfl), (h c).2.2.2.2.1.trans (by clear * -; rfl),
    (h c).2.2.2.2.2.1.trans (by clear * -; rfl), (h c).2.2.2.2.2.2⟩) (Value.run m ρ)

end Cert.Reference4Ideal.Forward
-- ==== Proof.ForwardPoint.lean ====
/- The forward input projection and its short convolution, at one grid point: what the kernel's stores leave, from the blocks
   the point reads and the rows the point before kept. -/
module

public import proofs.«01_k».proof.Proof.Gen.Kernel4Ideal.Frame
public import proofs.«01_k».proof.Proof.ForwardReference
public import Idealize.ShloMosaic.Lib.Pipeline.ValueKit
public import Idealize.ShloMosaic.Lib.Pointwise

@[expose] public section

set_option maxRecDepth 16384

noncomputable section

namespace Cert.Kernel4Ideal.Forward

open Idealize.ShloMosaic Idealize.ShloMosaic.TcCoe Idealize.ShloMosaic.Tactic
open Cert.Kernel4Ideal Cert.Kernel4Ideal.Gen
open Cert.Reference4Ideal.Forward (silu unitAt qkvAt head)
open scoped BigOperators

theorem zeros : (![0, 0] : Fin 2 → Nat) = fun _ => 0 := funext fun a => by fin_cases a <;> rfl

theorem exists_ix2 {a b : ℕ} (y : Shape.Idx ⟨2, ![a, b]⟩) : ∃ (i : Fin a) (j : Fin b), y = ix2 i j :=
  ⟨y 0, y 1, by funext k; match k with | ⟨0, _⟩ => rfl | ⟨1, _⟩ => rfl⟩

section
variable {F : FTy → Type} [FloatOps F]

/-- The columns of the weight that one section reads. -/
def wcol (x1 : Vec F S1024x4224 .bf16) (n lo : ℕ)
    (h : ∀ a, (![0, lo] : Fin 2 → ℕ) a + (![1024, n] : Fin 2 → ℕ) a ≤ S1024x4224.size a) : Vec F ⟨2, ![1024, n]⟩ .bf16 :=
  View.ld x1 (Rect.unit (s := S1024x4224) ![0, lo] ![1024, n] h)

/-- The section the convolution reads. -/
def pdnB (x0 : Vec F S512x1024 .bf16) (x1 : Vec F S1024x4224 .bf16) : FVec F S512x1536 .f32 :=
  k0_pay8 x0 (wcol x1 1536 0 inb_S1024x4224_S1024x1536_0_0)

/-- The convolution of 128 columns, over the rows and the rows kept above them. -/
def tapsB (e : FVec F S520x128 .f32) (w0 w1 w2 w3 : Vec F S1x128 .f32) : FVec F S512x128 .f32 :=
  addf (addf (addf
    (mulf (extractStridedSlice S512x128 ![8, 0] e slices_S520x128_o8_0_S512x128) (broadcastTo S512x128 w0 broadcasts_S1x128_S512x128))
    (mulf (extractStridedSlice S512x128 ![8, 0] (dynamicRotate 0 1#32 none e rotates_S520x128_d0) slices_S520x128_o8_0_S512x128)
      (broadcastTo S512x128 w1 broadcasts_S1x128_S512x128)))
    (mulf (extractStridedSlice S512x128 ![8, 0] (dynamicRotate 0 2#32 none e rotates_S520x128_d0) slices_S520x128_o8_0_S512x128)
      (broadcastTo S512x128 w2 broadcasts_S1x128_S512x128)))
    (mulf (extractStridedSlice S512x128 ![8, 0] (dynamicRotate 0 3#32 none e rotates_S520x128_d0) slices_S520x128_o8_0_S512x128)
      (broadcastTo S512x128 w3 broadcasts_S1x128_S512x128))

/-- Numbers times their logistic. -/
def siluB (y : FVec F S512x128 .f32) : FVec F S512x128 .f32 :=
  mulf y (divf (broadcast S512x128 (Scalar.ofBits .f32 0x3F800000#32)) (addf (broadcast S512x128 (Scalar.ofBits .f32 0x3F800000#32))
    (exp (subf (broadcast S512x128 (Scalar.ofBits .f32 0x00000000#32)) y))))

/-- A head's columns over the root of the sum of their squares. -/
def unitB (a : FVec F S512x128 .f32) : FVec F S512x128 .f32 :=
  mulf a (broadcastTo S512x128 (rsqrt (addf (shapeCast S512x1
    (multiReduction .add [1] S512 (mulf a a) 0x00000000#32 reduces_S512x128_S512 (.inl rfl) rfl) shapeCasts_S512_S512x1)
    (broadcast S512x1 (Scalar.ofBits .f32 0x358637BD#32)))) broadcasts_S512x1_S512x128)

/-- The same, scaled. -/
def scaledB (a : FVec F S512x128 .f32) : FVec F S512x128 .f32 :=
  mulf (unitB a) (broadcast S512x128 (Scalar.ofBits .f32 0x3DB504F3#32))

/-- One filter row's 128 columns. -/
def filt (x2 : Vec F S4x1536 .f32) (k lo : ℕ) (h : ∀ a, (![k, lo] : Fin 2 → ℕ) a + S1x128.size a ≤ S4x1536.size a) :
    Vec F S1x128 .f32 := View.ld x2 (Rect.unit (s := S4x1536) ![k, lo] S1x128.size h)

/-- The activation of 128 columns. -/
def actB (E : FVec F S520x1536 .f32) (x2 : Vec F S4x1536 .f32) (lo : ℕ) (h : S520x1536.Slices ![0, lo] S520x128)
    (h3 : ∀ a, (![3, lo] : Fin 2 → ℕ) a + S1x128.size a ≤ S4x1536.size a)
    (h2 : ∀ a, (![2, lo] : Fin 2 → ℕ) a + S1x128.size a ≤ S4x1536.size a)
    (h1 : ∀ a, (![1, lo] : Fin 2 → ℕ) a + S1x128.size a ≤ S4x1536.size a)
    (h0 : ∀ a, (![0, lo] : Fin 2 → ℕ) a + S1x128.size a ≤ S4x1536.size a) : FVec F S512x128 .f32 :=
  siluB (tapsB (extractStridedSlice S520x128 ![0, lo] E h) (filt x2 3 lo h3) (filt x2 2 lo h2) (filt x2 1 lo h1) (filt x2 0 lo h0))

end

/-! ## At an index -/

section
variable (E : FVec Ideal S520x1536 .f32) (x2 : Vec Ideal S4x1536 .f32)

theorem filt_apply (k lo : ℕ) (h : ∀ a, (![k, lo] : Fin 2 → ℕ) a + S1x128.size a ≤ S4x1536.size a) (l : Fin 128)
    (hk : k < 4) (hl : lo + l.val < 1536) : filt x2 k lo h (ix2 0 l) = x2 (ix2 ⟨k, hk⟩ ⟨lo + l.val, hl⟩) := by
  unfold filt
  show x2 _ = x2 _
  refine congrArg x2 ?_
  funext a; apply Fin.ext; fin_cases a
  · show k + 1 * 0 = k; omega
  · show lo + 1 * l.val = lo + l.val; omega

/-- The convolution of a block's rows. -/
def convB (r : Fin 512) (q : Fin 1536) : EReal :=
  E (ix2 ⟨8 + r.val, by omega⟩ q) * x2 (ix2 3 q) + E (ix2 ⟨7 + r.val, by omega⟩ q) * x2 (ix2 2 q)
    + E (ix2 ⟨6 + r.val, by omega⟩ q) * x2 (ix2 1 q) + E (ix2 ⟨5 + r.val, by omega⟩ q) * x2 (ix2 0 q)

theorem slice_apply (lo : ℕ) (h : S520x1536.Slices ![0, lo] S520x128) (r : Fin 520) (l : Fin 128) (hl : lo + l.val < 1536) :
    extractStridedSlice S520x128 ![0, lo] E h (ix2 r l) = E (ix2 r ⟨lo + l.val, hl⟩) := by
  pointwise

theorem tapsB_apply (e : FVec Ideal S520x128 .f32) (w0 w1 w2 w3 : Vec Ideal S1x128 .f32) (r : Fin 512) (l : Fin 128) :
    tapsB e w0 w1 w2 w3 (ix2 r l)
    = e (ix2 ⟨8 + r.val, by omega⟩ l) * w0 (ix2 0 l) + e (ix2 ⟨7 + r.val, by omega⟩ l) * w1 (ix2 0 l)
      + e (ix2 ⟨6 + r.val, by omega⟩ l) * w2 (ix2 0 l) + e (ix2 ⟨5 + r.val, by omega⟩ l) * w3 (ix2 0 l) := by
  have k1 : (8 + r.val + 520 - 1) % 520 = 7 + r.val := by omega
  have k2 : (8 + r.val + 520 - 2) % 520 = 6 + r.val := by omega
  have k3 : (8 + r.val + 520 - 3) % 520 = 5 + r.val := by omega
  refine Eq.trans (b := e (ix2 ⟨8 + r.val, by omega⟩ l) * w0 (ix2 0 l)
    + e (ix2 ⟨(8 + r.val + 520 - 1) % 520, Nat.mod_lt _ (by decide)⟩ l) * w1 (ix2 0 l)
    + e (ix2 ⟨(8 + r.val + 520 - 2) % 520, Nat.mod_lt _ (by decide)⟩ l) * w2 (ix2 0 l)
    + e (ix2 ⟨(8 + r.val + 520 - 3) % 520, Nat.mod_lt _ (by decide)⟩ l) * w3 (ix2 0 l)) (by pointwise [tapsB]) ?_
  simp only [k1, k2, k3]

theorem siluB_apply (y : FVec Ideal S512x128 .f32) (r : Fin 512) (l : Fin 128) : siluB y (ix2 r l) = silu (y (ix2 r l)) := by
  pointwise [siluB, silu, zero_sub]

theorem actB_apply (lo : ℕ) (h : S520x1536.Slices ![0, lo] S520x128)
    (h3 : ∀ a, (![3, lo] : Fin 2 → ℕ) a + S1x128.size a ≤ S4x1536.size a)
    (h2 : ∀ a, (![2, lo] : Fin 2 → ℕ) a + S1x128.size a ≤ S4x1536.size a)
    (h1 : ∀ a, (![1, lo] : Fin 2 → ℕ) a + S1x128.size a ≤ S4x1536.size a)
    (h0 : ∀ a, (![0, lo] : Fin 2 → ℕ) a + S1x128.size a ≤ S4x1536.size a)
    (r : Fin 512) (l : Fin 128) (hl : lo + l.val < 1536) :
    actB E x2 lo h h3 h2 h1 h0 (ix2 r l) = silu (convB E x2 r ⟨lo + l.val, hl⟩) := by
  unfold actB
  rw [siluB_apply, tapsB_apply]
  unfold convB
  simp only [filt_apply x2 3 lo h3 l (by decide) hl, filt_apply x2 2 lo h2 l (by decide) hl,
    filt_apply x2 1 lo h1 l (by decide) hl, filt_apply x2 0 lo h0 l (by decide) hl, slice_apply E lo h _ l hl]
  rfl

theorem unitB_apply (a : FVec Ideal S512x128 .f32) (r : Fin 512) (l : Fin 128) :
    unitB a (ix2 r l) = a (ix2 r l) * Ideal.rsqrt ((∑ l : Fin 128, a (ix2 r l) * a (ix2 r l)) + Ideal.ofBits .f32 0x358637BD#32) := by
  pointwise [unitB]

theorem scaledB_apply (a : FVec Ideal S512x128 .f32) (r : Fin 512) (l : Fin 128) :
    scaledB a (ix2 r l) = unitB a (ix2 r l) * Ideal.ofBits .f32 0x3DB504F3#32 := by
  pointwise [scaledB]

/-- The queries, the keys and the values of a block's rows. -/
def qkvB (y : S512x1536.Idx) : EReal := qkvAt (fun q => silu (convB E x2 (y 0) q)) (y 1)

/-- Columns `lo` to `lo + 128` of a block's rows. -/
abbrev piece (lo : ℕ) (h : ∀ a, (![0, lo] : Fin 2 → ℕ) a + S512x128.size a ≤ S512x1536.size a) : Rect S512x1536 :=
  Rect.unit (s := S512x1536) ![0, lo] S512x128.size h

theorem piece_emb (lo : ℕ) (h : ∀ a, (![0, lo] : Fin 2 → ℕ) a + S512x128.size a ≤ S512x1536.size a) (r : Fin 512) (l : Fin 128)
    (hl : lo + l.val < 1536) : (piece lo h).emb (ix2 r l) = ix2 r ⟨lo + l.val, hl⟩ := by
  funext a; apply Fin.ext; fin_cases a
  · show 0 + 1 * r.val = r.val; omega
  · show lo + 1 * l.val = lo + l.val; omega

theorem unit_act (lo : ℕ) (hlo : lo % 128 = 0) (hlt : lo + 128 ≤ 1536) (h : S520x1536.Slices ![0, lo] S520x128)
    (h3 : ∀ a, (![3, lo] : Fin 2 → ℕ) a + S1x128.size a ≤ S4x1536.size a)
    (h2 : ∀ a, (![2, lo] : Fin 2 → ℕ) a + S1x128.size a ≤ S4x1536.size a)
    (h1 : ∀ a, (![1, lo] : Fin 2 → ℕ) a + S1x128.size a ≤ S4x1536.size a)
    (h0 : ∀ a, (![0, lo] : Fin 2 → ℕ) a + S1x128.size a ≤ S4x1536.size a)
    (r : Fin 512) (l : Fin 128) (hl : lo + l.val < 1536) :
    unitB (actB E x2 lo h h3 h2 h1 h0) (ix2 r l) = unitAt (fun q => silu (convB E x2 r q)) ⟨lo + l.val, hl⟩ := by
  rw [unitB_apply]
  unfold unitAt
  have e : ∀ k : Fin 128, actB E x2 lo h h3 h2 h1 h0 (ix2 r k) = silu (convB E x2 r (head ⟨lo + l.val, hl⟩ k)) := fun k => by
    rw [actB_apply E x2 lo h h3 h2 h1 h0 r k (by omega)]
    exact congrArg (fun q => silu (convB E x2 r q)) (Fin.ext (by show lo + k.val = (lo + l.val) / 128 * 128 + k.val; omega))
  beta_reduce
  rw [← actB_apply E x2 lo h h3 h2 h1 h0 r l hl]
  simp only [← e]

section
variable (lo : ℕ) (h : S520x1536.Slices ![0, lo] S520x128)
    (h3 : ∀ a, (![3, lo] : Fin 2 → ℕ) a + S1x128.size a ≤ S4x1536.size a)
    (h2 : ∀ a, (![2, lo] : Fin 2 → ℕ) a + S1x128.size a ≤ S4x1536.size a)
    (h1 : ∀ a, (![1, lo] : Fin 2 → ℕ) a + S1x128.size a ≤ S4x1536.size a)
    (h0 : ∀ a, (![0, lo] : Fin 2 → ℕ) a + S1x128.size a ≤ S4x1536.size a)
    (hp : ∀ a, (![0, lo] : Fin 2 → ℕ) a + S512x128.size a ≤ S512x1536.size a) (j : S512x128.Idx)

theorem query (hlo : lo % 128 = 0) (hq : lo + 128 ≤ 512) :
    scaledB (actB E x2 lo h h3 h2 h1 h0) j = qkvB E x2 ((piece lo hp).emb j) := by
  obtain ⟨r, l, rfl⟩ := exists_ix2 j
  rw [scaledB_apply, unit_act E x2 lo hlo (by omega) h h3 h2 h1 h0 r l (by omega), piece_emb lo hp r l (by omega)]
  exact (if_pos (by show lo + l.val < 512; omega)).symm

theorem key (hlo : lo % 128 = 0) (hq : 512 ≤ lo) (hk : lo + 128 ≤ 1024) :
    unitB (actB E x2 lo h h3 h2 h1 h0) j = qkvB E x2 ((piece lo hp).emb j) := by
  obtain ⟨r, l, rfl⟩ := exists_ix2 j
  rw [unit_act E x2 lo hlo (by omega) h h3 h2 h1 h0 r l (by omega), piece_emb lo hp r l (by omega)]
  exact ((if_neg (by show ¬lo + l.val < 512; omega)).trans (if_pos (by show lo + l.val < 1024; omega))).symm

theorem value (hq : 1024 ≤ lo) (hk : lo + 128 ≤ 1536) :
    actB E x2 lo h h3 h2 h1 h0 j = qkvB E x2 ((piece lo hp).emb j) := by
  obtain ⟨r, l, rfl⟩ := exists_ix2 j
  rw [actB_apply E x2 lo h h3 h2 h1 h0 r l (by omega), piece_emb lo hp r l (by omega)]
  exact ((if_neg (by show ¬lo + l.val < 512; omega)).trans (if_neg (by show ¬lo + l.val < 1024; omega))).symm

end

/-- What the twelve stores of the queries, the keys and the values write, the last first. -/
def stores : List (View.Piece (Elt Ideal) S512x1536 .f32) :=
  [⟨piece 1408 inb_S512x1536_S512x128_0_1408, actB E x2 1408 slices_S520x1536_o0_1408_S520x128 inb_S4x1536_S1x128_3_1408 inb_S4x1536_S1x128_2_1408
      inb_S4x1536_S1x128_1_1408 inb_S4x1536_S1x128_0_1408⟩,
    ⟨piece 1280 inb_S512x1536_S512x128_0_1280, actB E x2 1280 slices_S520x1536_o0_1280_S520x128 inb_S4x1536_S1x128_3_1280 inb_S4x1536_S1x128_2_1280
      inb_S4x1536_S1x128_1_1280 inb_S4x1536_S1x128_0_1280⟩,
    ⟨piece 1152 inb_S512x1536_S512x128_0_1152, actB E x2 1152 slices_S520x1536_o0_1152_S520x128 inb_S4x1536_S1x128_3_1152 inb_S4x1536_S1x128_2_1152
      inb_S4x1536_S1x128_1_1152 inb_S4x1536_S1x128_0_1152⟩,
    ⟨piece 1024 inb_S512x1536_S512x128_0_1024, actB E x2 1024 slices_S520x1536_o0_1024_S520x128 inb_S4x1536_S1x128_3_1024 inb_S4x1536_S1x128_2_1024
      inb_S4x1536_S1x128_1_1024 inb_S4x1536_S1x128_0_1024⟩,
    ⟨piece 896 inb_S512x1536_S512x128_0_896, unitB (actB E x2 896 slices_S520x1536_o0_896_S520x128 inb_S4x1536_S1x128_3_896 inb_S4x1536_S1x128_2_896
      inb_S4x1536_S1x128_1_896 inb_S4x1536_S1x128_0_896)⟩,
    ⟨piece 768 inb_S512x1536_S512x128_0_768, unitB (actB E x2 768 slices_S520x1536_o0_768_S520x128 inb_S4x1536_S1x128_3_768 inb_S4x1536_S1x128_2_768
      inb_S4x1536_S1x128_1_768 inb_S4x1536_S1x128_0_768)⟩,
    ⟨piece 640 inb_S512x1536_S512x128_0_640, unitB (actB E x2 640 slices_S520x1536_o0_640_S520x128 inb_S4x1536_S1x128_3_640 inb_S4x1536_S1x128_2_640
      inb_S4x1536_S1x128_1_640 inb_S4x1536_S1x128_0_640)⟩,
    ⟨piece 512 inb_S512x1536_S512x128_0_512, unitB (actB E x2 512 slices_S520x1536_o0_512_S520x128 inb_S4x1536_S1x128_3_512 inb_S4x1536_S1x128_2_512
      inb_S4x1536_S1x128_1_512 inb_S4x1536_S1x128_0_512)⟩,
    ⟨piece 384 inb_S512x1536_S512x128_0_384, scaledB (actB E x2 384 slices_S520x1536_o0_384_S520x128 inb_S4x1536_S1x128_3_384 inb_S4x1536_S1x128_2_384
      inb_S4x1536_S1x128_1_384 inb_S4x1536_S1x128_0_384)⟩,
    ⟨piece 256 inb_S512x1536_S512x128_0_256, scaledB (actB E x2 256 slices_S520x1536_o0_256_S520x128 inb_S4x1536_S1x128_3_256 inb_S4x1536_S1x128_2_256
      inb_S4x1536_S1x128_1_256 inb_S4x1536_S1x128_0_256)⟩,
    ⟨piece 128 inb_S512x1536_S512x128_0_128, scaledB (actB E x2 128 slices_S520x1536_o0_128_S520x128 inb_S4x1536_S1x128_3_128 inb_S4x1536_S1x128_2_128
      inb_S4x1536_S1x128_1_128 inb_S4x1536_S1x128_0_128)⟩,
    ⟨piece 0 inb_S512x1536_S512x128_0_0, scaledB (actB E x2 0 slices_S520x1536_o0_0_S520x128 inb_S4x1536_S1x128_3_0 inb_S4x1536_S1x128_2_0
      inb_S4x1536_S1x128_1_0 inb_S4x1536_S1x128_0_0)⟩]

/-- They leave `qkvB`. -/
theorem stores_eq : View.canon (stores E x2) = qkvB E x2 := by
  funext y
  have cover : ∃ p ∈ stores E x2, y ∈ p.1.set := by
    unfold stores
    have hy0 := (y 0).isLt; have hy1 := (y 1).isLt
    simp at hy0 hy1
    simp only [List.mem_cons, List.not_mem_nil, or_false, exists_eq_or_imp, exists_eq_left, Rect.mem_set_unit,
      Fin.forall_fin_two]
    simp
    omega
  refine View.canon_apply_of_pieces (qkvB E x2) _ (fun p hp j => ?_) y cover
  unfold stores at hp
  simp only [List.mem_cons, List.not_mem_nil, or_false] at hp
  rcases hp with rfl | rfl | rfl | rfl | rfl | rfl | rfl | rfl | rfl | rfl | rfl | rfl
  · exact value E x2 1408 _ _ _ _ _ inb_S512x1536_S512x128_0_1408 j (by decide) (by decide)
  · exact value E x2 1280 _ _ _ _ _ inb_S512x1536_S512x128_0_1280 j (by decide) (by decide)
  · exact value E x2 1152 _ _ _ _ _ inb_S512x1536_S512x128_0_1152 j (by decide) (by decide)
  · exact value E x2 1024 _ _ _ _ _ inb_S512x1536_S512x128_0_1024 j (by decide) (by decide)
  · exact key E x2 896 _ _ _ _ _ inb_S512x1536_S512x128_0_896 j rfl (by decide) (by decide)
  · exact key E x2 768 _ _ _ _ _ inb_S512x1536_S512x128_0_768 j rfl (by decide) (by decide)
  · exact key E x2 640 _ _ _ _ _ inb_S512x1536_S512x128_0_640 j rfl (by decide) (by decide)
  · exact key E x2 512 _ _ _ _ _ inb_S512x1536_S512x128_0_512 j rfl (by decide) (by decide)
  · exact query E x2 384 _ _ _ _ _ inb_S512x1536_S512x128_0_384 j rfl (by decide)
  · exact query E x2 256 _ _ _ _ _ inb_S512x1536_S512x128_0_256 j rfl (by decide)
  · exact query E x2 128 _ _ _ _ _ inb_S512x1536_S512x128_0_128 j rfl (by decide)
  · exact query E x2 0 _ _ _ _ _ inb_S512x1536_S512x128_0_0 j rfl (by decide)

end

/-! ## What a point leaves -/

section
variable (c : Dev nD) (i : grid0.Coords)
  (a1 : Memref sig .tc .vmem S512x1024 .bf16) (h1 : a1.IsWhole) (a2 : Memref sig .tc .vmem S1024x4224 .bf16) (h2 : a2.IsWhole)
  (a3 : Memref sig .tc .vmem S4x1536 .f32) (h3 : a3.IsWhole) (a4 : Memref sig .tc .vmem S512x1536 .f32) (h4 : a4.IsWhole)
  (a5 : Memref sig .tc .vmem S512x1536 .f32) (h5 : a5.IsWhole) (a6 : Memref sig .tc .vmem S512x512 .f32) (h6 : a6.IsWhole)
  (a7 : Memref sig .tc .vmem S512x1536 .f32) (h7 : a7.IsWhole) (a8 : Memref sig .tc .vmem S512x512 .f32) (h8 : a8.IsWhole)
  (a9 : Memref sig .tc .vmem S512x128 .f32) (h9 : a9.IsWhole) (a10 : Memref sig .tc .vmem S8x1536 .f32) (h10 : a10.IsWhole)
  (x0 : Vec Ideal S512x1024 .bf16) (x1 : Vec Ideal S1024x4224 .bf16) (x2 : Vec Ideal S4x1536 .f32) (s : Vec Ideal S8x1536 .f32)

theorem first_pdn (hc0 : cond0_0 i) :
    out0_A_3 c i a1 h1 a2 h2 a3 h3 a4 h4 a5 h5 a6 h6 a7 h7 a8 h8 a9 h9 a10 h10 hc0 x0 x1 x2 = pdnB x0 x1 := by
  unfold out0_A_3
  rw [View.read_writes_eq_canon _ _ _ (cover0_A_3 c i a1 h1 a2 h2 a3 h3 a4 h4 a5 h5 a6 h6 a7 h7 a8 h8 a9 h9 a10 h10 hc0 x0 x1 x2)]
  unfold kernelRun0_A
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem first_z (hc0 : cond0_0 i) :
    out0_A_5 c i a1 h1 a2 h2 a3 h3 a4 h4 a5 h5 a6 h6 a7 h7 a8 h8 a9 h9 a10 h10 hc0 x0 x1 x2 = k0_pay4 x0 (wcol x1 512 1536 inb_S1024x4224_S1024x512_0_1536) := by
  unfold out0_A_5
  rw [View.read_writes_eq_canon _ _ _ (cover0_A_5 c i a1 h1 a2 h2 a3 h3 a4 h4 a5 h5 a6 h6 a7 h7 a8 h8 a9 h9 a10 h10 hc0 x0 x1 x2)]
  unfold kernelRun0_A
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem first_patt (hc0 : cond0_0 i) :
    out0_A_6 c i a1 h1 a2 h2 a3 h3 a4 h4 a5 h5 a6 h6 a7 h7 a8 h8 a9 h9 a10 h10 hc0 x0 x1 x2 = k0_pay5 x0 (wcol x1 1536 2048 inb_S1024x4224_S1024x1536_0_2048) := by
  unfold out0_A_6
  rw [View.read_writes_eq_canon _ _ _ (cover0_A_6 c i a1 h1 a2 h2 a3 h3 a4 h4 a5 h5 a6 h6 a7 h7 a8 h8 a9 h9 a10 h10 hc0 x0 x1 x2)]
  unfold kernelRun0_A
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem first_gate (hc0 : cond0_0 i) :
    out0_A_7 c i a1 h1 a2 h2 a3 h3 a4 h4 a5 h5 a6 h6 a7 h7 a8 h8 a9 h9 a10 h10 hc0 x0 x1 x2 = k0_pay6 x0 (wcol x1 512 3584 inb_S1024x4224_S1024x512_0_3584) := by
  unfold out0_A_7
  rw [View.read_writes_eq_canon _ _ _ (cover0_A_7 c i a1 h1 a2 h2 a3 h3 a4 h4 a5 h5 a6 h6 a7 h7 a8 h8 a9 h9 a10 h10 hc0 x0 x1 x2)]
  unfold kernelRun0_A
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem first_ba (hc0 : cond0_0 i) :
    out0_A_8 c i a1 h1 a2 h2 a3 h3 a4 h4 a5 h5 a6 h6 a7 h7 a8 h8 a9 h9 a10 h10 hc0 x0 x1 x2 = k0_pay7 x0 (wcol x1 128 4096 inb_S1024x4224_S1024x128_0_4096) := by
  unfold out0_A_8
  rw [View.read_writes_eq_canon _ _ _ (cover0_A_8 c i a1 h1 a2 h2 a3 h3 a4 h4 a5 h5 a6 h6 a7 h7 a8 h8 a9 h9 a10 h10 hc0 x0 x1 x2)]
  unfold kernelRun0_A
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem first_halo (hc0 : cond0_0 i) :
    sout0_A_0 c i a1 h1 a2 h2 a3 h3 a4 h4 a5 h5 a6 h6 a7 h7 a8 h8 a9 h9 a10 h10 hc0 x0 x1 x2 = k0_pay10 (pdnB x0 x1) := by
  unfold sout0_A_0
  rw [View.read_writes_eq_canon _ _ _ (scover0_A_0 c i a1 h1 a2 h2 a3 h3 a4 h4 a5 h5 a6 h6 a7 h7 a8 h8 a9 h9 a10 h10 hc0 x0 x1 x2)]
  unfold kernelRun0_A
  dsimp only
  sl_unfold_words
  rw [View.canon_cons_unit_zero (S := S8x1536) zeros]
  simp only [View.readAt_eq_ld, h1.read_unread, h2.read_unread, h3.read_unread, h10.read_unread, View.ld_unit_zero (S := S512x1024) zeros,
    View.ld_unit_zero (S := S8x1536) zeros]
  rfl

theorem first_qkv (hc0 : cond0_0 i) :
    out0_A_4 c i a1 h1 a2 h2 a3 h3 a4 h4 a5 h5 a6 h6 a7 h7 a8 h8 a9 h9 a10 h10 hc0 x0 x1 x2 = qkvB (k0_pay9 (pdnB x0 x1) (k0_pay2 (F := Ideal))) x2 := by
  unfold out0_A_4
  rw [View.read_writes_eq_canon _ _ _ (cover0_A_4 c i a1 h1 a2 h2 a3 h3 a4 h4 a5 h5 a6 h6 a7 h7 a8 h8 a9 h9 a10 h10 hc0 x0 x1 x2)]
  refine Eq.trans (b := View.canon (stores (k0_pay9 (pdnB x0 x1) (k0_pay2 (F := Ideal))) x2)) ?_ (stores_eq _ _)
  unfold kernelRun0_A
  dsimp only
  sl_unfold_words
  rw [View.readCov_unit_zero (S := S8x1536) _ zeros]
  simp only [View.readAt_eq_ld, h1.read_unread, h2.read_unread, h3.read_unread, h10.read_unread, View.ld_unit_zero (S := S512x1024) zeros,
  View.ld_unit_zero (S := S8x1536) zeros]
  rfl

theorem rest_pdn (hc0 : ¬cond0_0 i) :
    out0_B_3 c i a1 h1 a2 h2 a3 h3 a4 h4 a5 h5 a6 h6 a7 h7 a8 h8 a9 h9 a10 h10 hc0 x0 x1 x2 s = pdnB x0 x1 := by
  unfold out0_B_3
  rw [View.read_writes_eq_canon _ _ _ (cover0_B_3 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_z (hc0 : ¬cond0_0 i) :
    out0_B_5 c i a1 h1 a2 h2 a3 h3 a4 h4 a5 h5 a6 h6 a7 h7 a8 h8 a9 h9 a10 h10 hc0 x0 x1 x2 s = k0_pay4 x0 (wcol x1 512 1536 inb_S1024x4224_S1024x512_0_1536) := by
  unfold out0_B_5
  rw [View.read_writes_eq_canon _ _ _ (cover0_B_5 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_patt (hc0 : ¬cond0_0 i) :
    out0_B_6 c i a1 h1 a2 h2 a3 h3 a4 h4 a5 h5 a6 h6 a7 h7 a8 h8 a9 h9 a10 h10 hc0 x0 x1 x2 s = k0_pay5 x0 (wcol x1 1536 2048 inb_S1024x4224_S1024x1536_0_2048) := by
  unfold out0_B_6
  rw [View.read_writes_eq_canon _ _ _ (cover0_B_6 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_gate (hc0 : ¬cond0_0 i) :
    out0_B_7 c i a1 h1 a2 h2 a3 h3 a4 h4 a5 h5 a6 h6 a7 h7 a8 h8 a9 h9 a10 h10 hc0 x0 x1 x2 s = k0_pay6 x0 (wcol x1 512 3584 inb_S1024x4224_S1024x512_0_3584) := by
  unfold out0_B_7
  rw [View.read_writes_eq_canon _ _ _ (cover0_B_7 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_ba (hc0 : ¬cond0_0 i) :
    out0_B_8 c i a1 h1 a2 h2 a3 h3 a4 h4 a5 h5 a6 h6 a7 h7 a8 h8 a9 h9 a10 h10 hc0 x0 x1 x2 s = k0_pay7 x0 (wcol x1 128 4096 inb_S1024x4224_S1024x128_0_4096) := by
  unfold out0_B_8
  rw [View.read_writes_eq_canon _ _ _ (cover0_B_8 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_halo (hc0 : ¬cond0_0 i) :
    sout0_B_0 c i a1 h1 a2 h2 a3 h3 a4 h4 a5 h5 a6 h6 a7 h7 a8 h8 a9 h9 a10 h10 hc0 x0 x1 x2 s = k0_pay10 (pdnB x0 x1) := by
  unfold sout0_B_0
  rw [View.read_writes_eq_canon _ _ _ (scover0_B_0 c i a1 h1 a2 h2 a3 h3 a4 h4 a5 h5 a6 h6 a7 h7 a8 h8 a9 h9 a10 h10 hc0 x0 x1 x2 s)]
  unfold kernelRun0_B
  dsimp only
  sl_unfold_words
  rw [View.canon_unit_zero zeros]
  simp only [View.readAt_eq_ld, h1.read_unread, h2.read_unread, h3.read_unread, h10.read_unread, View.ld_unit_zero (S := S512x1024) zeros,
    View.ld_unit_zero (S := S8x1536) zeros]
  rfl

theorem rest_qkv (hc0 : ¬cond0_0 i) :
    out0_B_4 c i a1 h1 a2 h2 a3 h3 a4 h4 a5 h5 a6 h6 a7 h7 a8 h8 a9 h9 a10 h10 hc0 x0 x1 x2 s = qkvB (k0_pay9 (pdnB x0 x1) s) x2 := by
  unfold out0_B_4
  rw [View.read_writes_eq_canon _ _ _ (cover0_B_4 c i a1 h1 a2 h2 a3 h3 a4 h4 a5 h5 a6 h6 a7 h7 a8 h8 a9 h9 a10 h10 hc0 x0 x1 x2 s)]
  refine Eq.trans (b := View.canon (stores (k0_pay9 (pdnB x0 x1) s) x2)) ?_ (stores_eq _ _)
  unfold kernelRun0_B
  dsimp only
  sl_unfold_words
  simp only [View.readAt_eq_ld, h1.read_unread, h2.read_unread, h3.read_unread, h10.read_unread, View.ld_unit_zero (S := S512x1024) zeros,
  View.ld_unit_zero (S := S8x1536) zeros]
  rfl

end

end Cert.Kernel4Ideal.Forward
-- ==== Proof.Forward.lean ====
/- The forward input projection and its short convolution: the kernel's six results are the reference's. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.ForwardReference
public import proofs.«01_k».proof.Proof.ForwardPoint
public import Idealize.ShloMosaic.Lib.Pipeline.ValueKit
public import Idealize.ShloMosaic.Lib.StableHlo.ReadAt

@[expose] public section

set_option maxRecDepth 16384

noncomputable section

namespace Cert.Kernel4Ideal.Forward

open Idealize.ShloMosaic Idealize.ShloMosaic.TcCoe Idealize.ShloMosaic.Tactic
open Cert.Kernel4Ideal Cert.Kernel4Ideal.Gen
open Cert.Reference4Ideal.Forward (normed proj sec qkv tap convAt silu qkvAt proj_apply qkv_apply)
open Cert.Reference4Ideal (S4096x4224)
open scoped BigOperators

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)

/-- The grid point as a number below eight. -/
abbrev pt (t : Fin cfg0.N) : Fin 8 := ⟨t.val, N_0 ▸ t.isLt⟩
/-- Row `r` of block `t`. -/
abbrev row (t : Fin 8) (r : Fin 512) : Fin 4096 := ⟨t.val * 512 + r.val, by omega⟩

variable (m : (ℓ : Loc nD τ sig) → Buf (Elt Ideal) ℓ) (c : Dev nD)

/-- Of the arguments as launched: the normed rows, the weight, the projection, the section convolved, and the filter. -/
def h : FVec Ideal S4096x1024 .f32 := normed (m ((c.tc : Thread nD τ).loc main_arg0)) (m ((c.tc : Thread nD τ).loc main_arg1))
def w : FVec Ideal S1024x4224 .f32 := m ((c.tc : Thread nD τ).loc main_arg2)
def P : FVec Ideal S4096x4224 .f32 := proj (m ((c.tc : Thread nD τ).loc main_arg0)) (m ((c.tc : Thread nD τ).loc main_arg1)) (w m c)
def S : FVec Ideal S4096x1536 .f32 := sec (m ((c.tc : Thread nD τ).loc main_arg0)) (m ((c.tc : Thread nD τ).loc main_arg1)) (w m c)
def cw : FVec Ideal S4x1536 .f32 := m ((c.tc : Thread nD τ).loc main_arg3)

theorem P_apply (p : Fin 4096) (q : Fin 4224) : P m c (ix2 p q) = ∑ l : Fin 1024, h m c (ix2 p l) * w m c (ix2 l q) :=
  proj_apply _ _ _ p q

/-! ## The arrays the launch reads, and their blocks -/

theorem V_h (r : Fin 4096) (l : Fin 1024) : (V m c main_v12 : FVec Ideal S4096x1024 .bf16) (ix2 r l) = h m c (ix2 r l) := by
  unfold V
  after_reads_at
  unfold h
  pointwise [normed]

theorem V_w (l : Fin 1024) (q : Fin 4224) : (V m c main_v13 : FVec Ideal S1024x4224 .bf16) (ix2 l q) = w m c (ix2 l q) := by
  unfold V
  after_reads_at
  rfl

variable (t : Fin cfg0.N)

theorem blk_h (r : Fin 512) (l : Fin 1024) :
    (iblk m c 0 t : FVec Ideal S512x1024 .bf16) (ix2 r l) = h m c (ix2 (row (pt t) r) l) := by
  rw [← V_h]
  show V m c main_v12 _ = V m c main_v12 _
  blk_ext [ix_0]

theorem blk_w (l : Fin 1024) (q : Fin 4224) : (iblk m c 1 t : FVec Ideal S1024x4224 .bf16) (ix2 l q) = w m c (ix2 l q) := by
  rw [← V_w]
  show V m c main_v13 _ = V m c main_v13 _
  blk_ext [ix_1]

theorem blk_cw (k : Fin 4) (q : Fin 1536) : (iblk m c 2 t : FVec Ideal S4x1536 .f32) (ix2 k q) = cw m c (ix2 k q) := by
  show V m c main_arg3 _ = m ((c : Thread nD τ).loc main_arg3) _
  rw [V_main_arg3]
  blk_ext [ix_2]

/-! ## A point's products -/

theorem wcol_apply (x1 : Vec Ideal S1024x4224 .bf16) (n lo : ℕ)
    (h : ∀ a, (![0, lo] : Fin 2 → ℕ) a + (![1024, n] : Fin 2 → ℕ) a ≤ S1024x4224.size a) (l : Fin 1024) (j : Fin n)
    (hj : lo + j.val < 4224) : wcol x1 n lo h (ix2 l j) = x1 (ix2 l ⟨lo + j.val, hj⟩) := by
  unfold wcol
  show x1 _ = x1 _
  refine congrArg x1 ?_
  funext a; apply Fin.ext; fin_cases a
  · show 0 + 1 * l.val = l.val; omega
  · show lo + 1 * j.val = lo + j.val; omega

section
variable (x0 : FVec Ideal S512x1024 .bf16)

theorem pay4_apply (w : FVec Ideal S1024x512 .bf16) (r : Fin 512) (j : Fin 512) :
    k0_pay4 (F := Ideal) x0 w (ix2 r j) = ∑ l : Fin 1024, x0 (ix2 r l) * w (ix2 l j) := by
  pointwise [k0_pay4, k0_pay3]
theorem pay5_apply (w : FVec Ideal S1024x1536 .bf16) (r : Fin 512) (j : Fin 1536) :
    k0_pay5 (F := Ideal) x0 w (ix2 r j) = ∑ l : Fin 1024, x0 (ix2 r l) * w (ix2 l j) := by
  pointwise [k0_pay5, k0_pay3]
theorem pay6_apply (w : FVec Ideal S1024x512 .bf16) (r : Fin 512) (j : Fin 512) :
    k0_pay6 (F := Ideal) x0 w (ix2 r j) = ∑ l : Fin 1024, x0 (ix2 r l) * w (ix2 l j) := by
  pointwise [k0_pay6, k0_pay3]
theorem pay7_apply (w : FVec Ideal S1024x128 .bf16) (r : Fin 512) (j : Fin 128) :
    k0_pay7 (F := Ideal) x0 w (ix2 r j) = ∑ l : Fin 1024, x0 (ix2 r l) * w (ix2 l j) := by
  pointwise [k0_pay7, k0_pay3]
theorem pay8_apply (w : FVec Ideal S1024x1536 .bf16) (r : Fin 512) (j : Fin 1536) :
    k0_pay8 (F := Ideal) x0 w (ix2 r j) = ∑ l : Fin 1024, x0 (ix2 r l) * w (ix2 l j) := by
  pointwise [k0_pay8, k0_pay3]

end

/-- A point's product with a section's columns is the projection's entry. -/
theorem dot_row (n lo : ℕ) (h : ∀ a, (![0, lo] : Fin 2 → ℕ) a + (![1024, n] : Fin 2 → ℕ) a ≤ S1024x4224.size a) (r : Fin 512)
    (j : Fin n) (hj : lo + j.val < 4224) :
    (∑ l : Fin 1024, (show EReal from (iblk m c 0 t : FVec Ideal S512x1024 .bf16) (ix2 r l))
      * (show EReal from wcol (iblk m c 1 t) n lo h (ix2 l j)))
      = P m c (ix2 (row (pt t) r) ⟨lo + j.val, hj⟩) := by
  rw [P_apply]
  exact Finset.sum_congr rfl fun l _ => congrArg₂ (fun a b : EReal => a * b) (blk_h m c t r l)
    ((wcol_apply _ n lo h l j hj).trans (blk_w m c t l _))

theorem S_apply (p : Fin 4096) (q : Fin 1536) : S m c (ix2 p q) = P m c (ix2 p ⟨0 + q.val, by omega⟩) := by
  unfold S sec
  refine Eq.trans (b := P m c (ix2 p ⟨q.val, by omega⟩)) ?_
    (congrArg (fun i => P m c (ix2 p i)) (Fin.ext (by show q.val = 0 + q.val; omega)))
  show extractStridedSlice S4096x1536 ![0, 0] (P m c) _ (ix2 p q) = _
  pointwise

/-- A point's block of the section the convolution reads. -/
theorem pdnT (r : Fin 512) (q : Fin 1536) : pdnB (iblk m c 0 t) (iblk m c 1 t) (ix2 r q) = S m c (ix2 (row (pt t) r) q) := by
  unfold pdnB
  rw [pay8_apply, dot_row m c t 1536 0 _ r q (by omega), S_apply]

theorem after_pdn (r : Fin 512) (q : Fin 1536) :
    (outsAt0 m c t.val t.isLt).1 (ix2 r q) = S m c (ix2 (row (pt t) r) q) := by
  by_cases h : t.val % 8 = 0
  · rw [outsAt0_A m c t h]
    dsimp only
    rw [first_pdn, pdnT]
  · rw [outsAt0_B m c t h]
    dsimp only
    rw [rest_pdn, pdnT]

theorem after_z (r : Fin 512) (j : Fin 512) :
    (outsAt0 m c t.val t.isLt).2.2.1 (ix2 r j) = P m c (ix2 (row (pt t) r) ⟨1536 + j.val, by omega⟩) := by
  by_cases h : t.val % 8 = 0
  · rw [outsAt0_A m c t h]
    dsimp only
    rw [first_z, pay4_apply, dot_row]
  · rw [outsAt0_B m c t h]
    dsimp only
    rw [rest_z, pay4_apply, dot_row]

theorem after_patt (r : Fin 512) (j : Fin 1536) :
    (outsAt0 m c t.val t.isLt).2.2.2.1 (ix2 r j) = P m c (ix2 (row (pt t) r) ⟨2048 + j.val, by omega⟩) := by
  by_cases h : t.val % 8 = 0
  · rw [outsAt0_A m c t h]
    dsimp only
    rw [first_patt, pay5_apply, dot_row]
  · rw [outsAt0_B m c t h]
    dsimp only
    rw [rest_patt, pay5_apply, dot_row]

theorem after_gate (r : Fin 512) (j : Fin 512) :
    (outsAt0 m c t.val t.isLt).2.2.2.2.1 (ix2 r j) = P m c (ix2 (row (pt t) r) ⟨3584 + j.val, by omega⟩) := by
  by_cases h : t.val % 8 = 0
  · rw [outsAt0_A m c t h]
    dsimp only
    rw [first_gate, pay6_apply, dot_row]
  · rw [outsAt0_B m c t h]
    dsimp only
    rw [rest_gate, pay6_apply, dot_row]

theorem after_ba (r : Fin 512) (j : Fin 128) :
    (outsAt0 m c t.val t.isLt).2.2.2.2.2.1 (ix2 r j) = P m c (ix2 (row (pt t) r) ⟨4096 + j.val, by omega⟩) := by
  by_cases h : t.val % 8 = 0
  · rw [outsAt0_A m c t h]
    dsimp only
    rw [first_ba, pay7_apply, dot_row]
  · rw [outsAt0_B m c t h]
    dsimp only
    rw [rest_ba, pay7_apply, dot_row]

/-! ## The rows kept between points -/

theorem keep_apply (x : FVec Ideal S512x1536 .f32) (e : Fin 8) (q : Fin 1536) :
    k0_pay10 x (ix2 e q) = x (ix2 ⟨504 + e.val, by omega⟩ q) := by
  pointwise [k0_pay10]

/-- After a point the kept rows are the last eight of its block. -/
theorem after_halo (e : Fin 8) (q : Fin 1536) :
    (outsAt0 m c t.val t.isLt).2.2.2.2.2.2 (ix2 e q) = S m c (ix2 (row (pt t) ⟨504 + e.val, by omega⟩) q) := by
  by_cases h : t.val % 8 = 0
  · rw [outsAt0_A m c t h]
    dsimp only
    rw [first_halo, keep_apply, pdnT]
  · rw [outsAt0_B m c t h]
    dsimp only
    rw [rest_halo, keep_apply, pdnT]

theorem ext_apply (x : FVec Ideal S512x1536 .f32) (s : FVec Ideal S8x1536 .f32) (e : Fin 520) (q : Fin 1536) :
    k0_pay9 x s (ix2 e q) = if he : e.val < 8 then s (ix2 ⟨e.val, he⟩ q) else x (ix2 ⟨e.val - 8, by omega⟩ q) := by
  pointwise [k0_pay9]

theorem none_apply (e : Fin 8) (q : Fin 1536) : (k0_pay2 : FVec Ideal S8x1536 .f32) (ix2 e q) = 0 := by
  pointwise [k0_pay2]

/-- Over rows kept as they should be, the entry `k` rows up is the reference's. -/
theorem ext_tap (s : FVec Ideal S8x1536 .f32)
    (hs : ∀ (e : Fin 8) (q : Fin 1536), s (ix2 e q)
      = if h8 : 8 ≤ (row (pt t) 0).val + e.val then S m c (ix2 ⟨(row (pt t) 0).val + e.val - 8, by omega⟩ q) else 0)
    (e k : ℕ) (hek : e + k = 8) (hk : k ≤ 3) (r : Fin 512) (q : Fin 1536) (hb : e + r.val < 520) :
    k0_pay9 (pdnB (iblk m c 0 t) (iblk m c 1 t)) s (ix2 ⟨e + r.val, hb⟩ q) = tap (S m c) k (row (pt t) r) q := by
  have hr := r.isLt
  rw [ext_apply]
  unfold tap
  by_cases he : e + r.val < 8
  · rw [dif_pos he, hs]
    dsimp only
    by_cases hp : k ≤ t.val * 512 + r.val
    · rw [if_pos hp, dif_pos (by simp; omega)]
      exact congrArg (fun i => S m c (ix2 i q)) (Fin.ext (by simp; omega))
    · rw [if_neg hp, dif_neg (by simp; omega)]
  · rw [dif_neg he, pdnT]
    dsimp only
    rw [if_pos (by omega)]
    exact congrArg (fun i => S m c (ix2 i q)) (Fin.ext (by show t.val * 512 + (e + r.val - 8) = t.val * 512 + r.val - k; omega))

theorem conv_row (s : FVec Ideal S8x1536 .f32)
    (hs : ∀ (e : Fin 8) (q : Fin 1536), s (ix2 e q)
      = if h8 : 8 ≤ (row (pt t) 0).val + e.val then S m c (ix2 ⟨(row (pt t) 0).val + e.val - 8, by omega⟩ q) else 0)
    (r : Fin 512) (q : Fin 1536) :
    convB (k0_pay9 (pdnB (iblk m c 0 t) (iblk m c 1 t)) s) (iblk m c 2 t) r q = convAt (S m c) (cw m c) (row (pt t) r) q := by
  unfold convB convAt
  rw [ext_tap m c t s hs 8 0 rfl (by decide), ext_tap m c t s hs 7 1 rfl (by decide), ext_tap m c t s hs 6 2 rfl (by decide),
    ext_tap m c t s hs 5 3 rfl (by decide), blk_cw, blk_cw, blk_cw, blk_cw]
  ac_rfl

theorem qkvT (s : FVec Ideal S8x1536 .f32)
    (hs : ∀ (e : Fin 8) (q : Fin 1536), s (ix2 e q)
      = if h8 : 8 ≤ (row (pt t) 0).val + e.val then S m c (ix2 ⟨(row (pt t) 0).val + e.val - 8, by omega⟩ q) else 0)
    (r : Fin 512) (q : Fin 1536) :
    qkvB (k0_pay9 (pdnB (iblk m c 0 t) (iblk m c 1 t)) s) (iblk m c 2 t) (ix2 r q)
      = qkv (S m c) (cw m c) (ix2 (row (pt t) r) q) := by
  rw [qkv_apply]
  unfold qkvB
  exact congrArg (fun a => qkvAt a q) (funext fun q => congrArg silu (conv_row m c t s hs r q))

theorem after_qkv (r : Fin 512) (q : Fin 1536) :
    (outsAt0 m c t.val t.isLt).2.1 (ix2 r q) = qkv (S m c) (cw m c) (ix2 (row (pt t) r) q) := by
  have ht : t.val < 8 := (pt t).isLt
  by_cases h : t.val % 8 = 0
  · rw [outsAt0_A m c t h]
    dsimp only
    rw [first_qkv]
    refine qkvT m c t _ (fun e q => ?_) r q
    rw [none_apply, dif_neg (by simp; omega)]
  · rw [outsAt0_B m c t h]
    dsimp only
    rw [rest_qkv]
    refine qkvT m c t _ (fun e q => ?_) r q
    rw [dif_pos (by simp; omega)]
    refine (after_halo m c ⟨t.val - 1, by have := t.isLt; omega⟩ e q).trans ?_
    exact congrArg (fun i => S m c (ix2 i q)) (Fin.ext (by simp; omega))

/-! ## The results -/

theorem final_3 : (dats m 0 c).arrAt 3 cfg0.N = S m c := by
  refine (dats m 0 c).arrAt_eq_of_covers 3 _ (by decide +kernel) fun t hf y => ?_
  blk_simp
  rw [after0_3]
  obtain ⟨r, j, rfl⟩ := exists_ix2 y
  refine (after_pdn m c t r j).trans ?_
  blk_ext [ix_3]

theorem final_4 : (dats m 0 c).arrAt 4 cfg0.N = qkv (S m c) (cw m c) := by
  refine (dats m 0 c).arrAt_eq_of_covers 4 _ (by decide +kernel) fun t hf y => ?_
  blk_simp
  rw [after0_4]
  obtain ⟨r, j, rfl⟩ := exists_ix2 y
  refine (after_qkv m c t r j).trans ?_
  blk_ext [ix_4]

/-- A section of the projection. -/
theorem sec_apply {n : ℕ} (lo : ℕ) (h : S4096x4224.Slices ![0, lo] ⟨2, ![4096, n]⟩) (p : Fin 4096) (j : Fin n)
    (hj : lo + j.val < 4224) :
    extractStridedSlice ⟨2, ![4096, n]⟩ ![0, lo] (P m c) h (ix2 p j) = P m c (ix2 p ⟨lo + j.val, hj⟩) := by
  pointwise

/-- The sections the kernel stores as they are. -/
def secZ : FVec Ideal S4096x512 .f32 :=
  extractStridedSlice S4096x512 ![0, 1536] (P m c) Cert.Reference4Ideal.Gen.facts.slices_S4096x4224_S4096x512_0_1536
def secPatt : FVec Ideal S4096x1536 .f32 :=
  extractStridedSlice S4096x1536 ![0, 2048] (P m c) Cert.Reference4Ideal.Gen.facts.slices_S4096x4224_S4096x1536_0_2048
def secGate : FVec Ideal S4096x512 .f32 :=
  extractStridedSlice S4096x512 ![0, 3584] (P m c) Cert.Reference4Ideal.Gen.facts.slices_S4096x4224_S4096x512_0_3584
def secBa : FVec Ideal S4096x128 .f32 :=
  extractStridedSlice S4096x128 ![0, 4096] (P m c) Cert.Reference4Ideal.Gen.facts.slices_S4096x4224_S4096x128_0_4096

theorem final_5 : (dats m 0 c).arrAt 5 cfg0.N = secZ m c := by
  refine (dats m 0 c).arrAt_eq_of_covers 5 _ (by decide +kernel) fun t hf y => ?_
  blk_simp
  rw [after0_5]
  obtain ⟨r, j, rfl⟩ := exists_ix2 y
  refine (after_z m c t r j).trans (Eq.trans (b := secZ m c (ix2 (row (pt t) r) j))
    (sec_apply m c 1536 Cert.Reference4Ideal.Gen.facts.slices_S4096x4224_S4096x512_0_1536 _ _ _).symm ?_)
  blk_ext [ix_5]

theorem final_6 : (dats m 0 c).arrAt 6 cfg0.N = secPatt m c := by
  refine (dats m 0 c).arrAt_eq_of_covers 6 _ (by decide +kernel) fun t hf y => ?_
  blk_simp
  rw [after0_6]
  obtain ⟨r, j, rfl⟩ := exists_ix2 y
  refine (after_patt m c t r j).trans (Eq.trans (b := secPatt m c (ix2 (row (pt t) r) j))
    (sec_apply m c 2048 Cert.Reference4Ideal.Gen.facts.slices_S4096x4224_S4096x1536_0_2048 _ _ _).symm ?_)
  blk_ext [ix_6]

theorem final_7 : (dats m 0 c).arrAt 7 cfg0.N = secGate m c := by
  refine (dats m 0 c).arrAt_eq_of_covers 7 _ (by decide +kernel) fun t hf y => ?_
  blk_simp
  rw [after0_7]
  obtain ⟨r, j, rfl⟩ := exists_ix2 y
  refine (after_gate m c t r j).trans (Eq.trans (b := secGate m c (ix2 (row (pt t) r) j))
    (sec_apply m c 3584 Cert.Reference4Ideal.Gen.facts.slices_S4096x4224_S4096x512_0_3584 _ _ _).symm ?_)
  blk_ext [ix_7]

theorem final_8 : (dats m 0 c).arrAt 8 cfg0.N = secBa m c := by
  refine (dats m 0 c).arrAt_eq_of_covers 8 _ (by decide +kernel) fun t hf y => ?_
  blk_simp
  rw [after0_8]
  obtain ⟨r, j, rfl⟩ := exists_ix2 y
  refine (after_ba m c t r j).trans (Eq.trans (b := secBa m c (ix2 (row (pt t) r) j))
    (sec_apply m c 4096 Cert.Reference4Ideal.Gen.facts.slices_S4096x4224_S4096x128_0_4096 _ _ _).symm ?_)
  blk_ext [ix_8]

end Cert.Kernel4Ideal.Forward

/-! ## The claims -/

namespace Cert.Proof

open Idealize.ShloMosaic Idealize.SL.Sem
open Cert.Kernel4Ideal.Forward

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

/-- The reference's frame: its run's kept arguments; it declares no semaphore. -/
theorem frame_reference4 : Cert.quiescent_Reference4Ideal := fun m ρ _ =>
  (θ_run _ _ _).mono (fun r h => ⟨fun c => (h c).2.2.2.2.2.2, sem_eq_zero_of_no_sems (by decide) r.2⟩)
    (Cert.Reference4Ideal.Value.run m ρ)

/-- From any arguments the kernel's six results are the reference's. -/
theorem values4 : Cert.algebraic_Kernel4Ideal_Reference4Ideal := fun m ρ m' ρ' _ hag => by
  refine ⟨fun c => S m c, fun c => Cert.Reference4Ideal.Forward.qkv (S m c) (cw m c), fun c => secZ m c, fun c => secPatt m c,
    fun c => secGate m c, fun c => secBa m c, ?_, ?_⟩
  · refine (θ_run _ _ _).mono (fun _ h c => ?_) (Cert.Kernel4Ideal.Value.run_blocks m ρ)
    obtain ⟨h0, h1, h2, h3, h4, h5, hk⟩ := h c
    exact ⟨h0.trans (final_3 m c), h1.trans (final_4 m c), h2.trans (final_5 m c), h3.trans (final_6 m c),
      h4.trans (final_7 m c), h5.trans (final_8 m c), hk⟩
  · refine (θ_run _ _ _).mono (fun _ h c => ?_) (Cert.Reference4Ideal.Forward.run_fwd m' ρ')
    obtain ⟨h0, h1, h2, h3, h4, h5, hk⟩ := h c
    obtain ⟨e0, e1, e2, e3⟩ := hag c
    rw [e0, e1, e2] at h0 h2 h3 h4 h5
    rw [e0, e1, e2, e3] at h1
    exact ⟨h0, h1, h2, h3, h4, h5, hk⟩

end Cert.Proof

end
-- ==== Proof.lean ====
/- The claims: every execution of the kernel and of the reference terminates quiescent with its arguments kept, the kernel as
   compiled and at real numbers; from finite arguments the nine results of `outproj_both` at real numbers are the reference's,
   and so are the three of `inproj_bwd`; the result of `dw_in_dn` and the six of `inproj` are their
   references' from any arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Results
public import proofs.«01_k».proof.Proof.Finiteness
public import proofs.«01_k».proof.Proof.Reference
public import proofs.«01_k».proof.Proof.KernelFrame
public import proofs.«01_k».proof.Proof.Product
public import proofs.«01_k».proof.Proof.Inproj
public import proofs.«01_k».proof.Proof.Forward
public import Idealize.ShloMosaic.Adequacy
public import Idealize.ShloMosaic.Init

@[expose] public section

set_option maxRecDepth 16384

noncomputable section

namespace Cert.Proof

open Idealize.ShloMosaic Idealize.SL.Sem

theorem frame_kernelIdeal : Cert.quiescent_KernelIdeal := fun m ρ _ => Cert.KernelIdeal.Out.run_kept (F := Ideal) m ρ

/-- The reference's frame: its run's kept arguments; it declares no semaphore. -/
theorem frame_reference : Cert.quiescent_ReferenceIdeal := fun m ρ _ =>
  (θ_run _ _ _).mono (fun r h => ⟨fun c => (h c).2.2.2.2.2.2.2.2.2,
    sem_eq_zero_of_no_sems (by decide) r.2⟩) (Cert.ReferenceIdeal.Value.run m ρ)

section

local instance : Cert.Pre_finite.Facts := Cert.KernelIdeal.Out.finite_facts

theorem frame_kernelIdeal_finite : Cert.quiescent_KernelIdeal_pre_finite := fun m ρ _ => frame_kernelIdeal m ρ trivial

theorem frame_reference_finite : Cert.quiescent_ReferenceIdeal_pre_finite := fun m ρ _ => frame_reference m ρ trivial

/-- Two memories that agree on the arguments give the same argument arrays. -/
theorem arrs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (Cert.ReferenceIdeal.Value.refArrs m' c).x = (Cert.KernelIdeal.Out.arrs m c).x)
    (h1 : (Cert.ReferenceIdeal.Value.refArrs m' c).o = (Cert.KernelIdeal.Out.arrs m c).o)
    (h2 : (Cert.ReferenceIdeal.Value.refArrs m' c).z = (Cert.KernelIdeal.Out.arrs m c).z)
    (h3 : (Cert.ReferenceIdeal.Value.refArrs m' c).nw = (Cert.KernelIdeal.Out.arrs m c).nw)
    (h4 : (Cert.ReferenceIdeal.Value.refArrs m' c).oa = (Cert.KernelIdeal.Out.arrs m c).oa)
    (h5 : (Cert.ReferenceIdeal.Value.refArrs m' c).ga = (Cert.KernelIdeal.Out.arrs m c).ga)
    (h6 : (Cert.ReferenceIdeal.Value.refArrs m' c).w = (Cert.KernelIdeal.Out.arrs m c).w)
    (h7 : (Cert.ReferenceIdeal.Value.refArrs m' c).tgt = (Cert.KernelIdeal.Out.arrs m c).tgt) :
    Cert.ReferenceIdeal.Value.refArrs m' c = Cert.KernelIdeal.Out.arrs m c := by
  generalize Cert.ReferenceIdeal.Value.refArrs m' c = B at *
  generalize Cert.KernelIdeal.Out.arrs m c = A at *
  cases A; cases B
  cases h0; cases h1; cases h2; cases h3; cases h4; cases h5; cases h6; cases h7
  rfl

/-- From finite arguments the kernel's results are the reference's. -/
theorem values : Cert.algebraic_KernelIdeal_ReferenceIdeal_pre_finite := fun m ρ m' ρ' hfin hag => by
  have hA : ∀ c, Cert.ReferenceIdeal.Value.refArrs m' c = Cert.KernelIdeal.Out.arrs m c := fun c =>
    let ⟨h0, h1, h2, h3, h4, h5, h6, h7⟩ := hag c
    arrs_eq m m' c h0 h1 h2 h3 h4 h5 h6 h7
  refine ⟨fun c => Layers.tDy (Cert.KernelIdeal.Out.arrs m c), fun c => Layers.tDw (Cert.KernelIdeal.Out.arrs m c),
    fun c => Layers.tLoss (Cert.KernelIdeal.Out.arrs m c), fun c => Layers.tDo (Cert.KernelIdeal.Out.arrs m c),
    fun c => Layers.tDz (Cert.KernelIdeal.Out.arrs m c), fun c => Layers.tDoa (Cert.KernelIdeal.Out.arrs m c),
    fun c => Layers.tDg (Cert.KernelIdeal.Out.arrs m c), fun c => Layers.tDd (Cert.KernelIdeal.Out.arrs m c),
    fun c => Layers.tDnw (Cert.KernelIdeal.Out.arrs m c), ?_, ?_⟩
  · refine (θ_run _ _ _).mono (fun _ h c => ?_)
      (Cert.KernelIdeal.Out.run_layers m ρ (Cert.KernelIdeal.Out.real_of_finite m hfin))
    obtain ⟨⟨h0, h1, h2, h3, h4, h5, h6, h7, h8⟩, hk⟩ := h c
    exact ⟨h0, h1, h2, h3, h4, h5, h6, h7, h8, hk⟩
  · refine (θ_run _ _ _).mono (fun _ h c => ?_) (Cert.ReferenceIdeal.Value.run_layers m' ρ')
    obtain ⟨h0, h1, h2, h3, h4, h5, h6, h7, h8, hk⟩ := h c
    rw [hA c] at h0 h1 h2 h3 h4 h5 h6 h7 h8
    exact ⟨h0, h1, h2, h3, h4, h5, h6, h7, h8, hk⟩

end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.KernelIdeal.Out.finite_facts, Cert.Kernel3Ideal.Inproj.finite3_facts, frame_kernel, frame_kernelIdeal,
  frame_kernelIdeal_finite, frame_reference, frame_reference_finite, frame_kernel2, frame_kernel2Ideal, frame_reference2,
  frame_kernel3, frame_kernel3Ideal, frame_kernel3Ideal_finite, frame_reference3, frame_reference3_finite,
  frame_kernel4, frame_kernel4Ideal, frame_reference4, trivial, values, trivial, values2, trivial, values3, trivial, values4⟩

end Cert.Proof

end
